-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores_KernelIdeal [hPre_finite_scores_KernelIdeal : Cert.Pre_finite_scores_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores_ReferenceIdeal [hPre_finite_scores_ReferenceIdeal : Cert.Pre_finite_scores_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_scores_KernelIdeal [hKernelIdeal : Cert.KernelIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_scores_ReferenceIdeal [hReferenceIdeal : Cert.ReferenceIdeal.Facts] [hPre_finite_scores_ReferenceIdeal : Cert.Pre_finite_scores_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_scores_KernelIdeal [hKernelIdeal : Cert.KernelIdeal.Facts] [hReferenceIdeal : Cert.ReferenceIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![512, 512]⟩ ⟨2, ![512, 4096]⟩ 1 8 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)
      ∧ m ((c.tc : Thread Cert.KernelIdeal.nD Cert.KernelIdeal.τ).loc Cert.KernelIdeal.main_arg4) = Layout.block ⟨2, ![512, 512]⟩ ⟨2, ![4096, 512]⟩ 0 8 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v39) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_scores_KernelIdeal : Cert.Pre_finite_scores_KernelIdeal.Facts) (hPre_finite_scores_ReferenceIdeal : Cert.Pre_finite_scores_ReferenceIdeal.Facts),
    quiescent_Kernel (hKernel := hKernel)
    ∧ quiescent_KernelIdeal (hKernelIdeal := hKernelIdeal)
    ∧ quiescent_KernelIdeal_pre_finite_scores_KernelIdeal (hKernelIdeal := hKernelIdeal) (hPre_finite_scores_KernelIdeal := hPre_finite_scores_KernelIdeal)
    ∧ quiescent_ReferenceIdeal (hReferenceIdeal := hReferenceIdeal)
    ∧ quiescent_ReferenceIdeal_pre_finite_scores_ReferenceIdeal (hReferenceIdeal := hReferenceIdeal) (hPre_finite_scores_ReferenceIdeal := hPre_finite_scores_ReferenceIdeal)
    ∧ preserves_Kernel_KernelIdeal
    ∧ algebraic_KernelIdeal_ReferenceIdeal_pre_finite_scores_KernelIdeal (hKernelIdeal := hKernelIdeal) (hReferenceIdeal := hReferenceIdeal) (hPre_finite_scores_KernelIdeal := hPre_finite_scores_KernelIdeal)
-- ==== Pre_finite_scores_KernelIdeal.lean ====
abbrev S2x128x512 : Shape := ⟨3, ![2, 128, 512]⟩
abbrev S512x512 : Shape := ⟨2, ![512, 512]⟩
abbrev S2x128x16x64 : Shape := ⟨4, ![2, 128, 16, 64]⟩
abbrev S_ : Shape := ⟨0, ![]⟩

class Facts : Prop where
  bitsLt_bf16_f32 : FTy.bits .bf16 < FTy.bits .f32
  bcast_S_S2x128x512 : S_.BroadcastsInDim S2x128x512 (![] : Fin 0 → Fin S2x128x512.rank)
  bcast_S_S512x512 : S_.BroadcastsInDim S512x512 (![] : Fin 0 → Fin S512x512.rank)
  bcast_S_S2x128x16x64 : S_.BroadcastsInDim S2x128x16x64 (![] : Fin 0 → Fin S2x128x16x64.rank)

variable [Facts]

def fn {F : FTy → Type} [FloatOps F] (main_arg0 : FVec F S2x128x512 .bf16) (main_arg1 : FVec F S512x512 .bf16) (main_arg2 : FVec F S2x128x16x64 .bf16) (main_arg3 : FVec F S2x128x16x64 .bf16) (main_arg4 : FVec F S512x512 .bf16) : IVec S2x128x512 1 × IVec S512x512 1 × IVec S2x128x16x64 1 :=
  let main_v0 : FVec F S2x128x512 .f32 := (extf .f32 · bitsLt_bf16_f32) main_arg0
  let main_v1 : FVec F S2x128x512 .f32 := Host.absf main_v0
  let main_cst : FVec F S_ .f32 := constant S_ .f32 0x7F800000#32
  let main_v2 : FVec F S2x128x512 .f32 := broadcastInDim S2x128x512 ![] bcast_S_S2x128x512 main_cst
  let main_v3 : IVec S2x128x512 1 := cmpf .olt main_v1 main_v2
  let main_v4 : FVec F S512x512 .f32 := (extf .f32 · bitsLt_bf16_f32) main_arg1
  let main_v5 : FVec F S512x512 .f32 := Host.absf main_v4
  let main_cst_0 : FVec F S_ .f32 := constant S_ .f32 0x7F800000#32
  let main_v6 : FVec F S512x512 .f32 := broadcastInDim S512x512 ![] bcast_S_S512x512 main_cst_0
  let main_v7 : IVec S512x512 1 := cmpf .olt main_v5 main_v6
  let main_v8 : FVec F S2x128x16x64 .f32 := (extf .f32 · bitsLt_bf16_f32) main_arg2
  let main_v9 : FVec F S2x128x16x64 .f32 := Host.absf main_v8
  let main_cst_1 : FVec F S_ .f32 := constant S_ .f32 0x7F800000#32
  let main_v10 : FVec F S2x128x16x64 .f32 := broadcastInDim S2x128x16x64 ![] bcast_S_S2x128x16x64 main_cst_1
  let main_v11 : IVec S2x128x16x64 1 := cmpf .olt main_v9 main_v10
  (main_v3, main_v7, main_v11)
-- ==== Pre_finite_scores_ReferenceIdeal.lean ====
abbrev S2x128x512 : Shape := ⟨3, ![2, 128, 512]⟩
abbrev S512x4096 : Shape := ⟨2, ![512, 4096]⟩
abbrev S2x128x16x64 : Shape := ⟨4, ![2, 128, 16, 64]⟩
abbrev S4096x512 : Shape := ⟨2, ![4096, 512]⟩
abbrev S_ : Shape := ⟨0, ![]⟩

class Facts : Prop where
  bitsLt_bf16_f32 : FTy.bits .bf16 < FTy.bits .f32
  bcast_S_S2x128x512 : S_.BroadcastsInDim S2x128x512 (![] : Fin 0 → Fin S2x128x512.rank)
  bcast_S_S512x4096 : S_.BroadcastsInDim S512x4096 (![] : Fin 0 → Fin S512x4096.rank)
  bcast_S_S2x128x16x64 : S_.BroadcastsInDim S2x128x16x64 (![] : Fin 0 → Fin S2x128x16x64.rank)

variable [Facts]

def fn {F : FTy → Type} [FloatOps F] (main_arg0 : FVec F S2x128x512 .bf16) (main_arg1 : FVec F S512x4096 .bf16) (main_arg2 : FVec F S2x128x16x64 .bf16) (main_arg3 : FVec F S2x128x16x64 .bf16) (main_arg4 : FVec F S4096x512 .bf16) : IVec S2x128x512 1 × IVec S512x4096 1 × IVec S2x128x16x64 1 :=
  let main_v0 : FVec F S2x128x512 .f32 := (extf .f32 · bitsLt_bf16_f32) main_arg0
  let main_v1 : FVec F S2x128x512 .f32 := Host.absf main_v0
  let main_cst : FVec F S_ .f32 := constant S_ .f32 0x7F800000#32
  let main_v2 : FVec F S2x128x512 .f32 := broadcastInDim S2x128x512 ![] bcast_S_S2x128x512 main_cst
  let main_v3 : IVec S2x128x512 1 := cmpf .olt main_v1 main_v2
  let main_v4 : FVec F S512x4096 .f32 := (extf .f32 · bitsLt_bf16_f32) main_arg1
  let main_v5 : FVec F S512x4096 .f32 := Host.absf main_v4
  let main_cst_0 : FVec F S_ .f32 := constant S_ .f32 0x7F800000#32
  let main_v6 : FVec F S512x4096 .f32 := broadcastInDim S512x4096 ![] bcast_S_S512x4096 main_cst_0
  let main_v7 : IVec S512x4096 1 := cmpf .olt main_v5 main_v6
  let main_v8 : FVec F S2x128x16x64 .f32 := (extf .f32 · bitsLt_bf16_f32) main_arg2
  let main_v9 : FVec F S2x128x16x64 .f32 := Host.absf main_v8
  let main_cst_1 : FVec F S_ .f32 := constant S_ .f32 0x7F800000#32
  let main_v10 : FVec F S2x128x16x64 .f32 := broadcastInDim S2x128x16x64 ![] bcast_S_S2x128x16x64 main_cst_1
  let main_v11 : IVec S2x128x16x64 1 := cmpf .olt main_v9 main_v10
  (main_v3, main_v7, main_v11)
-- ==== Kernel.lean ====
abbrev S2x128x512 : Shape := ⟨3, ![2, 128, 512]⟩
abbrev S512x512 : Shape := ⟨2, ![512, 512]⟩
abbrev S2x128x16x64 : Shape := ⟨4, ![2, 128, 16, 64]⟩
abbrev S2x16x128x64 : Shape := ⟨4, ![2, 16, 128, 64]⟩
abbrev S128x512 : Shape := ⟨2, ![128, 512]⟩
abbrev S3x2x128x512 : Shape := ⟨4, ![3, 2, 128, 512]⟩
abbrev S3 : Shape := ⟨1, ![3]⟩
abbrev S_ : Shape := ⟨0, ![]⟩
abbrev S1x128x512 : Shape := ⟨3, ![1, 128, 512]⟩
abbrev S128x64 : Shape := ⟨2, ![128, 64]⟩
abbrev S1x1x128x64 : Shape := ⟨4, ![1, 1, 128, 64]⟩
abbrev S1x128x64 : Shape := ⟨3, ![1, 128, 64]⟩
abbrev S128x128 : Shape := ⟨2, ![128, 128]⟩
abbrev S128 : Shape := ⟨1, ![128]⟩
abbrev S128x1 : Shape := ⟨2, ![128, 1]⟩
abbrev S1 : Shape := ⟨1, ![1]⟩
abbrev S1x2x128x512 : Shape := ⟨4, ![1, 2, 128, 512]⟩

abbrev nBuf : Space → Nat
  | .hbm => 8
  | .vmem => 9
  | .smem => 0
  | _ => 0

abbrev bufTy : (tb : Table) → Fin (tcTables nBuf tb) → BufTy
  | .hbm, ⟨0, _⟩ => ⟨S2x128x512, .bf16⟩
  | .hbm, ⟨1, _⟩ => ⟨S512x512, .bf16⟩
  | .hbm, ⟨2, _⟩ => ⟨S2x128x16x64, .bf16⟩
  | .hbm, ⟨3, _⟩ => ⟨S2x128x16x64, .bf16⟩
  | .hbm, ⟨4, _⟩ => ⟨S512x512, .bf16⟩
  | .hbm, ⟨5, _⟩ => ⟨S2x16x128x64, .bf16⟩
  | .hbm, ⟨6, _⟩ => ⟨S2x16x128x64, .bf16⟩
  | .hbm, ⟨7, _⟩ => ⟨S2x128x512, .f32⟩
  | .local _ .vmem, ⟨0, _⟩ => ⟨S2x128x512, .bf16⟩
  | .local _ .vmem, ⟨1, _⟩ => ⟨S512x512, .bf16⟩
  | .local _ .vmem, ⟨2, _⟩ => ⟨S512x512, .bf16⟩
  | .local _ .vmem, ⟨3, _⟩ => ⟨S2x16x128x64, .bf16⟩
  | .local _ .vmem, ⟨4, _⟩ => ⟨S2x16x128x64, .bf16⟩
  | .local _ .vmem, ⟨5, _⟩ => ⟨S2x128x512, .f32⟩
  | .local _ .vmem, ⟨6, _⟩ => ⟨S128x512, .bf16⟩
  | .local _ .vmem, ⟨7, _⟩ => ⟨S2x128x512, .bf16⟩
  | .local _ .vmem, ⟨8, _⟩ => ⟨S3x2x128x512, .bf16⟩
  | _, _ => ⟨S2x128x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 2 → Bool
  | ⟨0, _⟩ => false
  | ⟨1, _⟩ => true
  | _ => false

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  (ofTc nBuf bufTy 2 12 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c2_i32_1 : BitVec 32 := 2#32
  let c2_i32 : BitVec 32 := 2#32
  let v4 : BitVec 32 := Scalar.remsi v2 c2_i32
  let v5 : BitVec 32 := Scalar.muli c2_i32_1 v4
  let v6 : BitVec 32 := Scalar.subi v3 v5
  let c1_i32_6 : BitVec 32 := 1#32
  let v14 : BitVec 32 := Scalar.muli v6 c1_i32_6
  let v15 : BitVec 32 := Scalar.addi c0_i32 v14
  v15.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v7 : BitVec 32 := Scalar.addi v2 c3_i32
  let c2_i32_2 : BitVec 32 := 2#32
  let c4_i32 : BitVec 32 := 4#32
  let v8 : BitVec 32 := Scalar.remsi v2 c4_i32
  let v9 : BitVec 32 := Scalar.muli c2_i32_2 v8
  let v10 : BitVec 32 := Scalar.subi v7 v9
  let c1_i32_8 : BitVec 32 := 1#32
  let v16 : BitVec 32 := Scalar.muli v10 c1_i32_8
  let v17 : BitVec 32 := Scalar.addi c0_i32_9 v16
  v17.toNat
def k0_dev3 (d0 : Dev nD) : Nat :=
  let c0_i32_12 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_3 : BitVec 32 := 4#32
  let v11 : BitVec 32 := Scalar.addi v2 c4_i32_3
  let c8_i32_4 : BitVec 32 := 8#32
  let v12 : BitVec 32 := Scalar.remsi v11 c8_i32_4
  let c1_i32_11 : BitVec 32 := 1#32
  let v18 : BitVec 32 := Scalar.muli v12 c1_i32_11
  let v19 : BitVec 32 := Scalar.addi c0_i32_12 v18
  v19.toNat
def k0_off1 (d0 : Dev nD) (c0_i32_19 : BitVec 32) : Fin 4 → Nat :=
  let c0_20 : Index := 0#32
  let c2_i32_18 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v25 : BitVec 32 := Scalar.muli c2_i32_18 v2
  let v26 : BitVec 32 := Scalar.addi v25 c0_i32_19
  let v29 : Index := Scalar.indexCast v26
  let c0_21 : Index := 0#32
  let c0_22 : Index := 0#32
  ![0, v29.toNat, 0, 0]
def k0_off2 (d0 : Dev nD) (c0_i32_145 : BitVec 32) : Fin 4 → Nat :=
  let c1_146 : Index := 1#32
  let c2_i32_144 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v277 : BitVec 32 := Scalar.muli c2_i32_144 v2
  let v278 : BitVec 32 := Scalar.addi v277 c0_i32_145
  let v281 : Index := Scalar.indexCast v278
  let c0_147 : Index := 0#32
  let c0_148 : Index := 0#32
  ![1, v281.toNat, 0, 0]
def k0_dev4 (d0 : Dev nD) : Nat :=
  let c0_i32_282 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c2_i32_1 : BitVec 32 := 2#32
  let c2_i32 : BitVec 32 := 2#32
  let v4 : BitVec 32 := Scalar.remsi v2 c2_i32
  let v5 : BitVec 32 := Scalar.muli c2_i32_1 v4
  let v6 : BitVec 32 := Scalar.subi v3 v5
  let c1_i32_281 : BitVec 32 := 1#32
  let v530 : BitVec 32 := Scalar.muli v6 c1_i32_281
  let v531 : BitVec 32 := Scalar.addi c0_i32_282 v530
  v531.toNat
def k0_dev5 (d0 : Dev nD) : Nat :=
  let c0_i32_321 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v7 : BitVec 32 := Scalar.addi v2 c3_i32
  let c2_i32_2 : BitVec 32 := 2#32
  let c4_i32 : BitVec 32 := 4#32
  let v8 : BitVec 32 := Scalar.remsi v2 c4_i32
  let v9 : BitVec 32 := Scalar.muli c2_i32_2 v8
  let v10 : BitVec 32 := Scalar.subi v7 v9
  let c1_i32_320 : BitVec 32 := 1#32
  let v561 : BitVec 32 := Scalar.muli v10 c1_i32_320
  let v562 : BitVec 32 := Scalar.addi c0_i32_321 v561
  v562.toNat
def k0_dev6 (d0 : Dev nD) : Nat :=
  let c0_i32_360 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_3 : BitVec 32 := 4#32
  let v11 : BitVec 32 := Scalar.addi v2 c4_i32_3
  let c8_i32_4 : BitVec 32 := 8#32
  let v12 : BitVec 32 := Scalar.remsi v11 c8_i32_4
  let c1_i32_359 : BitVec 32 := 1#32
  let v592 : BitVec 32 := Scalar.muli v12 c1_i32_359
  let v593 : BitVec 32 := Scalar.addi c0_i32_360 v592
  v593.toNat
def k0_dev7 (d0 : Dev nD) : Nat :=
  let c0_i32_390_r0 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c2_i32_1 : BitVec 32 := 2#32
  let c2_i32 : BitVec 32 := 2#32
  let v4 : BitVec 32 := Scalar.remsi v2 c2_i32
  let v5 : BitVec 32 := Scalar.muli c2_i32_1 v4
  let v6 : BitVec 32 := Scalar.subi v3 v5
  let c1_i32_389_r0 : BitVec 32 := 1#32
  let v618_r0 : BitVec 32 := Scalar.muli v6 c1_i32_389_r0
  let v619_r0 : BitVec 32 := Scalar.addi c0_i32_390_r0 v618_r0
  v619_r0.toNat
def k0_dev8 (d0 : Dev nD) : Nat :=
  let c0_i32_393_r0 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v7 : BitVec 32 := Scalar.addi v2 c3_i32
  let c2_i32_2 : BitVec 32 := 2#32
  let c4_i32 : BitVec 32 := 4#32
  let v8 : BitVec 32 := Scalar.remsi v2 c4_i32
  let v9 : BitVec 32 := Scalar.muli c2_i32_2 v8
  let v10 : BitVec 32 := Scalar.subi v7 v9
  let c1_i32_392_r0 : BitVec 32 := 1#32
  let v620_r0 : BitVec 32 := Scalar.muli v10 c1_i32_392_r0
  let v621_r0 : BitVec 32 := Scalar.addi c0_i32_393_r0 v620_r0
  v621_r0.toNat
def k0_dev9 (d0 : Dev nD) : Nat :=
  let c0_i32_396_r0 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_3 : BitVec 32 := 4#32
  let v11 : BitVec 32 := Scalar.addi v2 c4_i32_3
  let c8_i32_4 : BitVec 32 := 8#32
  let v12 : BitVec 32 := Scalar.remsi v11 c8_i32_4
  let c1_i32_395_r0 : BitVec 32 := 1#32
  let v622_r0 : BitVec 32 := Scalar.muli v12 c1_i32_395_r0
  let v623_r0 : BitVec 32 := Scalar.addi c0_i32_396_r0 v622_r0
  v623_r0.toNat
abbrev stage0_0 : Fin 1 → Memref sig .tc .vmem S2x128x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x16x128x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x16x128x64 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x128x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S2x128x512 : Shape := ⟨3, ![2, 128, 512]⟩
abbrev S512x4096 : Shape := ⟨2, ![512, 4096]⟩
abbrev S2x128x16x64 : Shape := ⟨4, ![2, 128, 16, 64]⟩
abbrev S4096x512 : Shape := ⟨2, ![4096, 512]⟩
abbrev S2x128x4096 : Shape := ⟨3, ![2, 128, 4096]⟩
abbrev S2x128x64x64 : Shape := ⟨4, ![2, 128, 64, 64]⟩
abbrev S2x128x16x4x64 : Shape := ⟨5, ![2, 128, 16, 4, 64]⟩
abbrev S_ : Shape := ⟨0, ![]⟩
abbrev S2x64x128x1 : Shape := ⟨4, ![2, 64, 128, 1]⟩
abbrev S2x64x128x128 : Shape := ⟨4, ![2, 64, 128, 128]⟩
abbrev S2x64x128 : Shape := ⟨3, ![2, 64, 128]⟩
abbrev S2x128x64x1 : Shape := ⟨4, ![2, 128, 64, 1]⟩
abbrev S2x64x64x128 : Shape := ⟨4, ![2, 64, 64, 128]⟩

abbrev nBuf : Space → Nat
  | .hbm => 51
  | .vmem => 0
  | .smem => 0
  | _ => 0

abbrev bufTy : (tb : Table) → Fin (tcTables nBuf tb) → BufTy
  | .hbm, ⟨0, _⟩ => ⟨S2x128x512, .bf16⟩
  | .hbm, ⟨1, _⟩ => ⟨S512x4096, .bf16⟩
  | .hbm, ⟨2, _⟩ => ⟨S2x128x16x64, .bf16⟩
  | .hbm, ⟨3, _⟩ => ⟨S2x128x16x64, .bf16⟩
  | .hbm, ⟨4, _⟩ => ⟨S4096x512, .bf16⟩
  | .hbm, ⟨5, _⟩ => ⟨S2x128x512, .f32⟩
  | .hbm, ⟨6, _⟩ => ⟨S512x4096, .f32⟩
  | .hbm, ⟨7, _⟩ => ⟨S2x128x16x64, .f32⟩
  | .hbm, ⟨8, _⟩ => ⟨S2x128x16x64, .f32⟩
  | .hbm, ⟨9, _⟩ => ⟨S4096x512, .f32⟩
  | .hbm, ⟨10, _⟩ => ⟨S2x128x4096, .f32⟩
  | .hbm, ⟨11, _⟩ => ⟨S2x128x64x64, .f32⟩
  | .hbm, ⟨12, _⟩ => ⟨S2x128x16x4x64, .f32⟩
  | .hbm, ⟨13, _⟩ => ⟨S2x128x64x64, .f32⟩
  | .hbm, ⟨14, _⟩ => ⟨S2x128x16x4x64, .f32⟩
  | .hbm, ⟨15, _⟩ => ⟨S2x128x64x64, .f32⟩
  | .hbm, ⟨16, _⟩ => ⟨S_, .f32⟩
  | .hbm, ⟨17, _⟩ => ⟨S2x128x64x64, .f32⟩
  | .hbm, ⟨18, _⟩ => ⟨S_, .f32⟩
  | .hbm, ⟨19, _⟩ => ⟨S2x64x128x1, .f32⟩
  | .hbm, ⟨20, _⟩ => ⟨S_, .f32⟩
  | .hbm, ⟨21, _⟩ => ⟨S2x64x128x1, .f32⟩
  | .hbm, ⟨22, _⟩ => ⟨S2x64x128x128, .f32⟩
  | .hbm, ⟨23, _⟩ => ⟨S_, .f32⟩
  | .hbm, ⟨24, _⟩ => ⟨S2x64x128x128, .f32⟩
  | .hbm, ⟨25, _⟩ => ⟨S2x64x128x128, .f32⟩
  | .hbm, ⟨26, _⟩ => ⟨S_, .f32⟩
  | .hbm, ⟨27, _⟩ => ⟨S2x64x128, .f32⟩
  | .hbm, ⟨28, _⟩ => ⟨S2x64x128x1, .f32⟩
  | .hbm, ⟨29, _⟩ => ⟨S2x64x128x1, .f32⟩
  | .hbm, ⟨30, _⟩ => ⟨S2x64x128x1, .f32⟩
  | .hbm, ⟨31, _⟩ => ⟨S2x64x128x1, .f32⟩
  | .hbm, ⟨32, _⟩ => ⟨S2x64x128x128, .f32⟩
  | .hbm, ⟨33, _⟩ => ⟨S2x64x128x128, .f32⟩
  | .hbm, ⟨34, _⟩ => ⟨S2x64x128x128, .f32⟩
  | .hbm, ⟨35, _⟩ => ⟨S2x64x128x1, .f32⟩
  | .hbm, ⟨36, _⟩ => ⟨S_, .f32⟩
  | .hbm, ⟨37, _⟩ => ⟨S2x64x128, .f32⟩
  | .hbm, ⟨38, _⟩ => ⟨S2x64x128x1, .f32⟩
  | .hbm, ⟨39, _⟩ => ⟨S2x64x128x1, .f32⟩
  | .hbm, ⟨40, _⟩ => ⟨S2x128x64x1, .f32⟩
  | .hbm, ⟨41, _⟩ => ⟨S2x128x64x64, .f32⟩
  | .hbm, ⟨42, _⟩ => ⟨S2x128x64x64, .f32⟩
  | .hbm, ⟨43, _⟩ => ⟨S2x64x64x128, .f32⟩
  | .hbm, ⟨44, _⟩ => ⟨S2x128x64x64, .f32⟩
  | .hbm, ⟨45, _⟩ => ⟨S2x128x64x64, .f32⟩
  | .hbm, ⟨46, _⟩ => ⟨S2x128x64x1, .f32⟩
  | .hbm, ⟨47, _⟩ => ⟨S2x128x64x64, .f32⟩
  | .hbm, ⟨48, _⟩ => ⟨S2x128x64x64, .f32⟩
  | .hbm, ⟨49, _⟩ => ⟨S2x128x4096, .f32⟩
  | .hbm, ⟨50, _⟩ => ⟨S2x128x512, .f32⟩
  | _, _ => ⟨S2x128x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst : Ref sig .tc := ⟨.hbm, 16, rfl⟩
abbrev main_v11 : Ref sig .tc := ⟨.hbm, 17, rfl⟩
abbrev main_cst_0 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_cst_3 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_4 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩

abbrev nD : Nat := 1
abbrev τ : Topo := Topo.v7x

variable {F : FTy → Type} [FloatOps F]
-- ==== Proof.KernelIdeal.Cells.lean ====
/-
  The exchange of the kernel, named: the partner of each step, the semaphore cells, the buffers and the three landing
  slots. Step 0 pairs a device with the one whose number differs in the last bit, step 1 with the one whose number
  differs in the last two bits, step 2 with the one whose number differs in the third bit.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Rounds
public import Idealize.ShloMosaic.Lib.Tactic
public import Idealize.ShloMosaic.PureOps

@[expose] public section

set_option maxRecDepth 16384

noncomputable section

namespace Cert.KernelIdeal.Exch

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## Partners -/

/-- The partner of device `c` in step `s`. -/
def pt (s : Fin 3) (c : Dev nD) : Dev nD :=
  ⟨c.val ^^^ (![1, 3, 4] : Fin 3 → ℕ) s, by revert s c; decide⟩

/-- Partnership is mutual. -/
theorem pt_pt (s : Fin 3) (c : Dev nD) : pt s (pt s c) = c := by revert s c; decide

/-- The three partners of a device are different devices. -/
theorem pt_inj (c : Dev nD) : Function.Injective fun s => pt s c := by revert c; decide

/-- A step's partnership as a permutation of the devices. -/
def ptEquiv (s : Fin 3) : Dev nD ≃ Dev nD := ⟨pt s, pt s, pt_pt s, pt_pt s⟩

theorem dev1_eq (c : Dev nD) : (⟨k0_dev1 c, k0_dev1_lt c⟩ : Dev nD) = pt 0 c := Fin.ext (by revert c; decide)
theorem dev2_eq (c : Dev nD) : (⟨k0_dev2 c, k0_dev2_lt c⟩ : Dev nD) = pt 1 c := Fin.ext (by revert c; decide)
theorem dev3_eq (c : Dev nD) : (⟨k0_dev3 c, k0_dev3_lt c⟩ : Dev nD) = pt 2 c := Fin.ext (by revert c; decide)
theorem dev4_eq (c : Dev nD) : (⟨k0_dev4 c, k0_dev4_lt c⟩ : Dev nD) = pt 0 c := Fin.ext (by revert c; decide)
theorem dev5_eq (c : Dev nD) : (⟨k0_dev5 c, k0_dev5_lt c⟩ : Dev nD) = pt 1 c := Fin.ext (by revert c; decide)
theorem dev6_eq (c : Dev nD) : (⟨k0_dev6 c, k0_dev6_lt c⟩ : Dev nD) = pt 2 c := Fin.ext (by revert c; decide)
theorem dev7_eq (c : Dev nD) : (⟨k0_dev7 c, k0_dev7_lt c⟩ : Dev nD) = pt 0 c := Fin.ext (by revert c; decide)
theorem dev8_eq (c : Dev nD) : (⟨k0_dev8 c, k0_dev8_lt c⟩ : Dev nD) = pt 1 c := Fin.ext (by revert c; decide)
theorem dev9_eq (c : Dev nD) : (⟨k0_dev9 c, k0_dev9_lt c⟩ : Dev nD) = pt 2 c := Fin.ext (by revert c; decide)

/-! ## Semaphores and cells -/

/-- The semaphore at which the kernel's devices meet at the end. -/
abbrev exitS : Sem sig := ⟨1, by decide⟩
/-- The semaphore that a step's copy credits at its sender. -/
abbrev sendS (s : Fin 3) : DmaSem sig := ⟨6 + s.val, by revert s; decide⟩
/-- The semaphore that a step's copy credits at its receiver. -/
abbrev recvS (s : Fin 3) : DmaSem sig := ⟨9 + s.val, by revert s; decide⟩

abbrev barCell (c : Dev nD) : GSem nD τ sig := ((c : Thread nD τ), .reg barrier0)
abbrev exitCell (c : Dev nD) : GSem nD τ sig := ((c : Thread nD τ), .reg exitS)
abbrev sendCell (s : Fin 3) (c : Dev nD) : GSem nD τ sig := ((c : Thread nD τ), .dma (sendS s))
abbrev recvCell (s : Fin 3) (c : Dev nD) : GSem nD τ sig := ((c : Thread nD τ), .dma (recvS s))

/-! ## Buffers and landing slots -/

/-- The buffer that a copy sends. -/
abbrev sbM : Memref sig .tc .vmem S2x128x512 .bf16 := Memref.whole cc0_scratch1
/-- The buffer of the three landing slots. -/
abbrev rbM : Memref sig .tc .vmem S3x2x128x512 .bf16 := Memref.whole cc0_scratch2

theorem slot_inb (s : Fin 3) : ∀ a, (![s.val, 0, 0, 0] : Fin 4 → ℕ) a + S1x2x128x512.size a ≤ S3x2x128x512.size a := by
  revert s; decide

/-- The rectangle of landing slot `s`. -/
abbrev slotR (s : Fin 3) : Rect S3x2x128x512 := Rect.unit (s := S3x2x128x512) ![s.val, 0, 0, 0] S1x2x128x512.size (slot_inb s)
/-- Landing slot `s`, with its leading dimension. -/
abbrev slotV (s : Fin 3) : Memref sig .tc .vmem S1x2x128x512 .bf16 := rbM.slice (slotR s) (fun _ => rfl)
/-- Landing slot `s`. -/
abbrev slotM (s : Fin 3) : Memref sig .tc .vmem S2x128x512 .bf16 := (slotV s).squeeze S2x128x512 squeezes_S1x2x128x512_S2x128x512

/-- What one copy credits. -/
abbrev N : ℕ := (sbM : Memref sig .tc .vmem S2x128x512 .bf16).view.dmaCredit
theorem N_pos : 0 < N := View.dmaCredit_pos _ (by decide)
theorem slot_credit (s : Fin 3) : (slotM s).view.dmaCredit = N := by
  revert s; decide

theorem slot_set (s : Fin 3) : (slotM s).view.set = (slotR s).set := by
  show (((View.whole cc0_scratch2).slice (slotR s)).reshape _ _).set = _
  rw [View.set_reshape, View.set_slice_whole]

/-! ## The separation logic in which the kernel is proved -/

/-- The exchange's own resource, beside that of the staging copies: three duties to a round. -/
abbrev UB : Type := URounds (GSem nD τ sig) (Fin 3)
abbrev UU : Type := UR sig nD τ × UB

local notation "𝕄" => MT nD τ sig Unit (Elt F) ℕ UU ℕ

/-- The kernel has no loop that needs a measure. -/
abbrev 𝒱₀ : Variants := Variants.none

abbrev EP : Emb (UR sig nD τ) (MT nD τ sig Unit (Elt F) ℕ UU ℕ) := embL
abbrev ER : Emb UB (MT nD τ sig Unit (Elt F) ℕ UU ℕ) := embR

/-- The sending buffer of device `c`, holding `f`. -/
def sbPts (c : Dev nD) (f : Buf (Elt F) (sbM.view.loc (c : Thread nD τ))) : sProp 𝕄 :=
  sbM.view.loc (c : Thread nD τ) ↦[sbM.view.set]{fullShare} f
/-- Landing slot `s` of device `c`, the landing buffer's contents read from `f`. -/
def slotPts (s : Fin 3) (c : Dev nD) (f : Buf (Elt F) ((slotM s).view.loc (c : Thread nD τ))) : sProp 𝕄 :=
  (slotM s).view.loc (c : Thread nD τ) ↦[(slotM s).view.set]{fullShare} f
/-- Landing slot `s` of device `c` holding `w`. -/
def slotHas (s : Fin 3) (c : Dev nD) (w : S2x128x512.Idx → Elt F .bf16) : sProp 𝕄 :=
  iprop(∃ f : Buf (Elt F) ((slotM s).view.loc (c : Thread nD τ)), ⌜(slotM s).view.read (Elt F) f = w⌝ ∗ slotPts s c f)

end Cert.KernelIdeal.Exch

end
-- ==== Proof.KernelIdeal.Schedule.lean ====
/-
  The protocol of the exchange, stated for any sequence `sv` of sent values: `sv s c` is what device `c` sends in step
  `s`.

    barrier   3 units, one from each partner; partner `s`'s unit hands over its landing slot `s`, and says that its
              receiving semaphore of step `s` and its exit semaphore are in use;
    send s    the copy of step `s` gives the sending buffer back;
    recv s    the partner's copy of step `s` hands over landing slot `s`, holding what the partner sent;
    exit      3 units, one from each partner, with nothing.

  A device waits at the barrier while it owes the three copies and the three exit units, waits for step `s` while it owes
  the later copies and the exit units, and waits at the exit owing nothing: the levels grow in that order.
-/
module

public import proofs.«01_k».proof.Proof.KernelIdeal.Cells

@[expose] public section

set_option maxRecDepth 16384

noncomputable section

namespace Cert.KernelIdeal.Exch

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig Unit (Elt F) ℕ UU ℕ

variable (sv : Fin 3 → Dev nD → S2x128x512.Idx → Elt F .bf16)

/-! ## What each unit hands over -/

/-- Partner `s`'s unit on the barrier of device `c`. -/
def barPay (s : Fin 3) (c : Dev nD) : sProp 𝕄 :=
  iprop((∃ f, slotPts s (pt s c) f) ∗ reached ER (recvCell s (pt s c)) 0 ∗ reached ER (exitCell (pt s c)) 0)
/-- The copy of step `s`, at its sender. -/
def sendPay (s : Fin 3) (c : Dev nD) : sProp 𝕄 := sbPts c (sv s c)
/-- The copy of step `s`, at its receiver. -/
def recvPay (s : Fin 3) (c : Dev nD) : sProp 𝕄 := slotHas s c (sv s (pt s c))

/-- What a unit on semaphore `sm` of device `c` hands over, by duty. -/
def pay (c : Dev nD) : SemLoc sig → Fin 3 → sProp 𝕄
  | .reg k, d => if k.val = 0 then barPay d c else iprop(emp)
  | .dma k, _ => match k.val with
    | 6 => sendPay sv 0 c
    | 7 => sendPay sv 1 c
    | 8 => sendPay sv 2 c
    | 9 => recvPay sv 0 c
    | 10 => recvPay sv 1 c
    | 11 => recvPay sv 2 c
    | _ => iprop(emp)

/-- The duties on a semaphore: three on the barrier and on the exit, one on a copy's semaphore. -/
def dut : SemLoc sig → Finset (Fin 3)
  | .reg _ => Finset.univ
  | .dma k => if 6 ≤ k.val then {0} else ∅

/-- The units of a duty. -/
def amt : SemLoc sig → ℕ
  | .reg _ => 1
  | .dma _ => N

/-- The schedule: everything happens in round 0. -/
def Rd : Rounds.Schedule (GSem nD τ sig) (Fin 3) 𝕄 where
  duties g r := if r = 0 ∧ g.1.2 = .tc then dut g.2 else ∅
  unitless _ := False
  amount g _ _ := amt g.2
  payload g _ d := pay sv g.1.1 g.2 d
  amount_pos g _ _ _ := by
    obtain ⟨_, sm⟩ := g
    cases sm with
    | reg k => exact Nat.one_pos
    | dma k => exact N_pos

instance slotHas_storable (s : Fin 3) (c : Dev nD) (w : S2x128x512.Idx → Elt F .bf16) :
    BI.Storable (upEmb : UEmb _ 𝕄) (slotHas s c w) := by
  unfold slotHas slotPts; infer_instance

instance Rd_storable (g : GSem nD τ sig) (r : ℕ) (d : Fin 3) : BI.Storable (upEmb : UEmb _ 𝕄) ((Rd sv).payload g r d) := by
  show BI.Storable upEmb (pay sv g.1.1 g.2 d)
  unfold pay
  split
  · unfold barPay slotPts; split <;> infer_instance
  · unfold sendPay recvPay sbPts; split <;> infer_instance

/-! ## The tables of the schedule -/

section Tables

variable (s : Fin 3) (c : Dev nD)

theorem duties_zero (sm : SemLoc sig) : (Rd sv).duties ((c : Thread nD τ), sm) 0 = dut sm := by
  dsimp only [Rd]; exact if_pos ⟨rfl, rfl⟩
theorem duties_bar : (Rd sv).duties (barCell c) 0 = Finset.univ := duties_zero sv c _
theorem duties_exit : (Rd sv).duties (exitCell c) 0 = Finset.univ := duties_zero sv c _
theorem duties_send : (Rd sv).duties (sendCell s c) 0 = {0} :=
  (duties_zero sv c _).trans (if_pos (show 6 ≤ 6 + s.val by omega))
theorem duties_recv : (Rd sv).duties (recvCell s c) 0 = {0} :=
  (duties_zero sv c _).trans (if_pos (show 6 ≤ 9 + s.val by omega))
theorem duties_later (g : GSem nD τ sig) : ∀ r, 1 ≤ r → (Rd sv).duties g r = ∅ := fun r hr => if_neg fun h => by omega

theorem amount_bar (d : Fin 3) : (Rd sv).amount (barCell c) 0 d = 1 := rfl
theorem amount_exit (d : Fin 3) : (Rd sv).amount (exitCell c) 0 d = 1 := rfl
theorem amount_send (d : Fin 3) : (Rd sv).amount (sendCell s c) 0 d = N := rfl
theorem amount_recv (d : Fin 3) : (Rd sv).amount (recvCell s c) 0 d = N := rfl

theorem expect_bar : (Rd sv).expect (barCell c) 0 = 3 := by
  unfold Schedule.expect Schedule.amountOf; rw [duties_bar]; rfl
theorem expect_exit : (Rd sv).expect (exitCell c) 0 = 3 := by
  unfold Schedule.expect Schedule.amountOf; rw [duties_exit]; rfl
theorem expect_send : (Rd sv).expect (sendCell s c) 0 = N := by
  unfold Schedule.expect Schedule.amountOf; rw [duties_send, Finset.sum_singleton, amount_send]
theorem expect_recv : (Rd sv).expect (recvCell s c) 0 = N := by
  unfold Schedule.expect Schedule.amountOf; rw [duties_recv, Finset.sum_singleton, amount_recv]

theorem payload_bar : (Rd sv).payload (barCell c) 0 s = barPay s c := rfl
theorem payload_exit : (Rd sv).payload (exitCell c) 0 s = iprop(emp) := rfl
theorem payload_send (d : Fin 3) : (Rd sv).payload (sendCell s c) 0 d = sendPay sv s c := by
  fin_cases s <;> rfl
theorem payload_recv (d : Fin 3) : (Rd sv).payload (recvCell s c) 0 d = recvPay sv s c := by
  fin_cases s <;> rfl

theorem bigSep_three {M : Type} [URA M] (Φ : Fin 3 → sProp M) :
    bigSep Finset.univ Φ = iprop(Φ 0 ∗ Φ 1 ∗ Φ 2) :=
  bigSep_univ_eq_bigSepL [(0 : Fin 3), 1, 2] (by decide) (by decide) Φ

theorem rest_bar : bigSep ((Rd sv).duties (barCell c) 0 \ ∅) (fun d => (Rd sv).payload (barCell c) 0 d)
    = iprop(barPay 0 c ∗ barPay 1 c ∗ barPay 2 c) := by
  rw [Finset.sdiff_empty, duties_bar, bigSep_three]; rfl
theorem rest_send : bigSep ((Rd sv).duties (sendCell s c) 0 \ ∅) (fun d => (Rd sv).payload (sendCell s c) 0 d) = sendPay sv s c := by
  rw [Finset.sdiff_empty, duties_send, bigSep_singleton, payload_send]
theorem rest_recv : bigSep ((Rd sv).duties (recvCell s c) 0 \ ∅) (fun d => (Rd sv).payload (recvCell s c) 0 d) = recvPay sv s c := by
  rw [Finset.sdiff_empty, duties_recv, bigSep_singleton, payload_recv]

end Tables

/-! ## What a device owes, and the levels -/

/-- The tally of a list of debts, the next one to be paid first. -/
def oweL : List (GSem nD τ sig × ℕ) → CellTallies nD τ sig Unit
  | [] => 0
  | p :: l => oweL l + tallyAt p.1 () p.2

theorem oweL_nil : oweL [] = 0 := rfl
theorem oweL_cons (p : GSem nD τ sig × ℕ) (l : List (GSem nD τ sig × ℕ)) : oweL (p :: l) = oweL l + tallyAt p.1 () p.2 := rfl

/-- The exit units device `c` pays, from step `s` on. -/
abbrev exits (c : Dev nD) : List (GSem nD τ sig × ℕ) := [(exitCell (pt 0 c), 1), (exitCell (pt 1 c), 1), (exitCell (pt 2 c), 1)]
/-- The copies device `c` sends, then the exit units. -/
abbrev copies (c : Dev nD) : List (GSem nD τ sig × ℕ) :=
  (recvCell 0 (pt 0 c), N) :: (recvCell 1 (pt 1 c), N) :: (recvCell 2 (pt 2 c), N) :: exits c
/-- All that device `c` owes when it starts: the barrier units, the copies, the exit units. -/
abbrev debts (c : Dev nD) : List (GSem nD τ sig × ℕ) :=
  (barCell (pt 0 c), 1) :: (barCell (pt 1 c), 1) :: (barCell (pt 2 c), 1) :: copies c

def O₀ (c : Dev nD) : CellTallies nD τ sig Unit := oweL (debts c)

theorem oweL_pos {l : List (GSem nD τ sig × ℕ)} {g : GSem nD τ sig} {u : Unit} (h : 0 < oweL l g u) : ∃ p ∈ l, p.1 = g := by
  induction l with
  | nil => exact absurd h (Nat.lt_irrefl 0)
  | cons p l ih =>
    rw [oweL_cons, Pi.add_apply, Finsupp.add_apply] at h
    rcases Nat.add_pos_iff_pos_or_pos.mp h with h | h
    · obtain ⟨q, hq, e⟩ := ih h
      exact ⟨q, List.mem_cons_of_mem _ hq, e⟩
    · rw [tallyAt_apply] at h
      split at h
      · next hg => exact ⟨p, List.mem_cons_self, hg.1.symm⟩
      · exact absurd h (Nat.lt_irrefl 0)

/-- Every semaphore of a device's tensor core has its one index. -/
def L (g : GSem nD τ sig) : Finset Unit := if g.1.2 = .tc then {()} else ∅
/-- The level of a semaphore. -/
def lvS : SemLoc sig → ℕ
  | .reg k => if k.val = 0 then 1 else 5
  | .dma k => if 9 ≤ k.val then k.val - 7 else 0
def lv (g : GSem nD τ sig) (_ : Unit) : ℕ := lvS g.2

theorem L_of_ne (g : GSem nD τ sig) (h : g.1.2 ≠ .tc) : L g = ∅ := if_neg h
theorem L_tc (c : Dev nD) (sm : SemLoc sig) : L ((c : Thread nD τ), sm) = {()} := if_pos rfl

/-- A device may wait on a semaphore of its own that lies below all that it owes. -/
theorem mayWait (c : Dev nD) (sm : SemLoc sig) (l : List (GSem nD τ sig × ℕ)) (h : ∀ p ∈ l, p.1.1.2 = .tc)
    (ns : List ℕ) (hn : (l.map fun p => lvS p.1.2) = ns) (hlt : ∀ n ∈ ns, lvS sm < n) :
    (levAts L lv : sProp 𝕄) ⊢ MayWait (c : Thread nD τ) sm () (oweL l) :=
  MayOwe.of_cut (L := L) (lev := lv) (lvS sm) (fun p hp => by rw [Finset.mem_singleton.mp hp, L_tc]; exact Finset.mem_singleton_self _)
    (fun g u hg => by
      obtain ⟨p, hp, rfl⟩ := oweL_pos hg
      rw [L, if_pos (h p hp)]; exact Finset.mem_singleton_self _)
    (fun p hp => by rw [Finset.mem_singleton.mp hp]; exact le_refl _)
    (fun g u hg => by
      obtain ⟨p, hp, rfl⟩ := oweL_pos hg
      exact hlt _ (hn ▸ List.mem_map_of_mem (f := fun p : GSem nD τ sig × ℕ => lvS p.1.2) hp))

/-- The levels of all that a device owes, in the order in which it pays. -/
theorem debts_levels (c : Dev nD) : ((debts c).map fun p => lvS p.1.2) = [1, 1, 1, 2, 3, 4, 5, 5, 5] := rfl

/-- All that a device owes is owed to a tensor core. -/
theorem debts_tc (c : Dev nD) : ∀ p ∈ debts c, p.1.1.2 = .tc := by
  intro p hp
  simp only [debts, copies, exits, List.mem_cons, List.not_mem_nil, or_false] at hp
  rcases hp with rfl | rfl | rfl | rfl | rfl | rfl | rfl | rfl | rfl <;> rfl

/-- All that a device owes lies above level 0, where its staging semaphores are. -/
theorem O₀_above {c : Dev nD} {g : GSem nD τ sig} {u : Unit} (h : 0 < O₀ c g u) : u ∈ L g ∧ 0 < lv g u := by
  obtain ⟨p, hp, rfl⟩ := oweL_pos h
  refine ⟨by rw [L, if_pos (debts_tc c p hp)]; exact Finset.mem_singleton_self _, ?_⟩
  exact (by decide : ∀ n ∈ [1, 1, 1, 2, 3, 4, 5, 5, 5], 0 < n) _
    (debts_levels c ▸ List.mem_map_of_mem (f := fun p : GSem nD τ sig × ℕ => lvS p.1.2) hp)

end Cert.KernelIdeal.Exch

end
-- ==== Proof.KernelIdeal.Protocol.lean ====
/-
  The exchange's cells, what every device may consult of them, what a device holds of them, and how it opens and closes its own.
-/
module

public import proofs.«01_k».proof.Proof.KernelIdeal.Schedule

@[expose] public section

set_option maxRecDepth 16384

noncomputable section

namespace Cert.KernelIdeal.Exch

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig Unit (Elt F) ℕ UU ℕ

variable (sv : Fin 3 → Dev nD → S2x128x512.Idx → Elt F .bf16)

/-! ## The cells -/

/-- The kernel's own semaphores: a step's two for each of the three steps, and the exit. -/
def osem : Fin 7 → SemLoc sig :=
  ![.dma (sendS 0), .dma (sendS 1), .dma (sendS 2), .dma (recvS 0), .dma (recvS 1), .dma (recvS 2), .reg exitS]

theorem osem_inj : Function.Injective osem := by decide
theorem osem_ne_bar : ∀ k, osem k ≠ .reg barrier0 := by decide

/-- The barrier of each device. -/
def meetEmb : Dev nD ↪ GSem nD τ sig := ⟨barCell, fun _ _ h => congrArg (fun g : GSem nD τ sig => g.1.1) h⟩
/-- Semaphore `k` of the kernel's own on each device. -/
def ownEmb : Dev nD × Fin 7 ↪ GSem nD τ sig :=
  ⟨fun p => ((p.1 : Thread nD τ), osem p.2), fun _ _ h =>
    Prod.ext (congrArg (fun g : GSem nD τ sig => g.1.1) h) (osem_inj (congrArg Prod.snd h))⟩

abbrev meetCells : Finset (GSem nD τ sig) := Finset.univ.map meetEmb
abbrev ownCells : Finset (GSem nD τ sig) := Finset.univ.map ownEmb

theorem cells_disjoint : Disjoint (meetCells : Finset (GSem nD τ sig)) ownCells := by
  rw [Finset.disjoint_left]
  rintro g h₁ h₂
  obtain ⟨c, -, rfl⟩ := Finset.mem_map.mp h₁
  obtain ⟨p, -, h⟩ := Finset.mem_map.mp h₂
  exact osem_ne_bar p.2 (congrArg Prod.snd h)

theorem meet_mem (c : Dev nD) : barCell c ∈ (meetCells ∪ ownCells : Finset (GSem nD τ sig)) :=
  Finset.mem_union_left _ (Finset.mem_map_of_mem meetEmb (Finset.mem_univ c))
theorem own_mem (k : Fin 7) (c : Dev nD) : ((c : Thread nD τ), osem k) ∈ (meetCells ∪ ownCells : Finset (GSem nD τ sig)) :=
  Finset.mem_union_right _ (Finset.mem_map_of_mem ownEmb (Finset.mem_univ (c, k)))
theorem send_mem (s : Fin 3) (c : Dev nD) : sendCell s c ∈ (meetCells ∪ ownCells : Finset (GSem nD τ sig)) := by
  fin_cases s
  · exact own_mem 0 c
  · exact own_mem 1 c
  · exact own_mem 2 c
theorem recv_mem (s : Fin 3) (c : Dev nD) : recvCell s c ∈ (meetCells ∪ ownCells : Finset (GSem nD τ sig)) := by
  fin_cases s
  · exact own_mem 3 c
  · exact own_mem 4 c
  · exact own_mem 5 c
theorem exit_mem (c : Dev nD) : exitCell c ∈ (meetCells ∪ ownCells : Finset (GSem nD τ sig)) := own_mem 6 c

/-! ## What every device may consult -/

/-- The invariants of all cells, under one map of names, and that every barrier is in its first round. -/
def records (K : GSem nD τ sig → ℕ) : sProp 𝕄 :=
  iprop((bigSep (meetCells ∪ ownCells) fun g => cellInv ER (Rd sv) (K g) g) ∗ bigSep meetCells fun g => reached ER g 0)

instance records_persistent (K : GSem nD τ sig → ℕ) : BI.Persistent (records sv K) := by unfold records; infer_instance

theorem inv_of (K : GSem nD τ sig → ℕ) {g : GSem nD τ sig} (hg : g ∈ (meetCells ∪ ownCells : Finset (GSem nD τ sig))) :
    records sv K ⊢ cellInv ER (Rd sv) (K g) g := by
  unfold records
  iintro ⟨#HI, -⟩
  iapply (show (bigSep (meetCells ∪ ownCells) fun g => (cellInv ER (Rd sv) (K g) g : sProp 𝕄)) ⊢ cellInv ER (Rd sv) (K g) g from bigSep_elim hg); iexact HI

theorem reached_of (K : GSem nD τ sig → ℕ) (c : Dev nD) : records sv K ⊢ reached ER (barCell c) 0 := by
  unfold records
  iintro ⟨-, #HR⟩
  have h : barCell c ∈ (meetCells : Finset (GSem nD τ sig)) := Finset.mem_map_of_mem meetEmb (Finset.mem_univ c)
  iapply (show (bigSep meetCells fun g => (reached ER g 0 : sProp 𝕄)) ⊢ reached ER (barCell c) 0 from bigSep_elim h); iexact HR

/-! ## What a device holds -/

/-- One of each step. -/
abbrev each (Φ : Fin 3 → sProp 𝕄) : sProp 𝕄 := iprop(Φ 0 ∗ Φ 1 ∗ Φ 2)

/-- The duties device `c` pays: its three partners' barriers and exits, its three copies at both ends. -/
def tokens (c : Dev nD) : sProp 𝕄 :=
  iprop(each (fun s => dutyTok ER (barCell (pt s c)) 0 s) ∗ each (fun s => dutyTok ER (exitCell (pt s c)) 0 s)
    ∗ each (fun s => dutyTok ER (recvCell s (pt s c)) 0 0) ∗ each (fun s => dutyTok ER (sendCell s c) 0 0))

/-- The credit device `c` waits with. -/
def credits (c : Dev nD) : sProp 𝕄 :=
  iprop(cred (tallyAt (barCell c) () 3) ∗ cred (tallyAt (exitCell c) () 3) ∗ each (fun s => cred (tallyAt (recvCell s c) () N)))

theorem bigSep_seven {M : Type} [URA M] (Φ : Fin 7 → sProp M) :
    bigSep Finset.univ Φ = iprop(Φ 0 ∗ Φ 1 ∗ Φ 2 ∗ Φ 3 ∗ Φ 4 ∗ Φ 5 ∗ Φ 6) :=
  bigSep_univ_eq_bigSepL [(0 : Fin 7), 1, 2, 3, 4, 5, 6] (by decide) (by decide) Φ

/-- From the launch to the kernel: the records, the position on the open barrier, the right to open the own semaphores,
    the duties to pay. -/
def ghost (K : GSem nD τ sig → ℕ) (c : Dev nD) : sProp 𝕄 :=
  iprop(records sv K ∗ atPos ER (barCell c) 0 ∅ 0 ∗ (bigSep Finset.univ fun k => openTok ER ((c : Thread nD τ), osem k)) ∗ tokens c)

/-- The same with the own semaphores opened. -/
def opened (K : GSem nD τ sig → ℕ) (c : Dev nD) : sProp 𝕄 :=
  iprop(records sv K ∗ atPos ER (barCell c) 0 ∅ 0
    ∗ (bigSep Finset.univ fun k => iprop(atPos ER ((c : Thread nD τ), osem k) 0 ∅ 0 ∗ reached ER ((c : Thread nD τ), osem k) 0)) ∗ tokens c)

/-- One of the own semaphores opened. -/
theorem open_one (K : GSem nD τ sig → ℕ) (c : Dev nD) (k : Fin 7) :
    iprop(records sv K ∗ (openTok ER ((c : Thread nD τ), osem k) ∗ semVal ((c : Thread nD τ), osem k) 0))
      ⊢ (|={Set.univ}=> iprop(atPos ER ((c : Thread nD τ), osem k) 0 ∅ 0 ∗ reached ER ((c : Thread nD τ), osem k) 0) : sProp 𝕄) := by
  iintro ⟨#HR, Ho, Hs⟩
  imod (Rounds.cell_open ER (Rd sv) (g := ((c : Thread nD τ), osem k)) (Set.mem_univ (K ((c : Thread nD τ), osem k)))) $$ [Ho Hs] with ⟨Hat, #Hr⟩
  · isplitr; · iapply (inv_of sv K (own_mem k c)); iexact HR
    isplitl [Ho] <;> iassumption
  imodintro
  isplitl; · iexact Hat
  iexact Hr

/-- All of them opened. -/
theorem open_all (K : GSem nD τ sig → ℕ) (c : Dev nD) :
    iprop(ghost sv K c ∗ Pipeline.ownSems0 osem c) ⊢ (|={Set.univ}=> opened sv K c : sProp 𝕄) := by
  unfold ghost opened Pipeline.ownSems0
  iintro ⟨⟨#HR, Hat, Ho, Ht⟩, Hs⟩
  ihave Hp := (Entails.of_eq (bigSep_sep' (M := 𝕄) Finset.univ (fun k => openTok ER ((c : Thread nD τ), osem k)) (fun k => semVal ((c : Thread nD τ), osem k) 0)).symm) $$ [Ho Hs]
  · isplitl [Ho] <;> iassumption
  imod (show iprop(records sv K ∗ bigSep Finset.univ fun k => iprop(openTok ER ((c : Thread nD τ), osem k) ∗ semVal ((c : Thread nD τ), osem k) 0))
      ⊢ (|={Set.univ}=> bigSep Finset.univ fun k => iprop(atPos ER ((c : Thread nD τ), osem k) 0 ∅ 0 ∗ reached ER ((c : Thread nD τ), osem k) 0) : sProp 𝕄) from
    (bigSep_with_persistent (R := records sv K) fun k _ => open_one sv K c k).trans (bigSep_fupd _ _)) $$ [Hp] with Hk
  · isplitr; · iexact HR
    iexact Hp
  imodintro
  isplitr; · iexact HR
  isplitl [Hat]; · iexact Hat
  isplitl [Hk] <;> iassumption

/-- A semaphore past its one round is closed at zero. -/
theorem close_one (K : GSem nD τ sig → ℕ) {g : GSem nD τ sig} (hg : g ∈ (meetCells ∪ ownCells : Finset (GSem nD τ sig))) :
    iprop(records sv K ∗ atPos ER g 1 ∅ 0) ⊢ (|={Set.univ}=> semVal g 0 : sProp 𝕄) := by
  iintro ⟨#HR, Hat⟩
  iapply (Rounds.cell_close ER (Rd sv) (R := 1) (Set.mem_univ (K g)) id (duties_later sv g))
  isplitr; · iapply (inv_of sv K hg); iexact HR
  iexact Hat

end Cert.KernelIdeal.Exch

end
-- ==== Proof.KernelIdeal.Steps.lean ====
/-
  The exchange's steps, one theorem each: a unit to a partner's barrier or exit, the wait for the three partners, a
  step's copy into the partner's landing slot, the wait for the own copy to have gone out and for the partner's to have
  come in. Each takes what the step needs and gives back what the device holds after it.
-/
module

public import proofs.«01_k».proof.Proof.KernelIdeal.Protocol

@[expose] public section

set_option maxRecDepth 16384

noncomputable section

namespace Cert.KernelIdeal.Exch

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (sv : Fin 3 → Dev nD → S2x128x512.Idx → Elt F .bf16)

section Steps

variable {k : PUnit.{1} → Prog (TpuEff nD τ sig (Elt F) Λ₀ .tc) PUnit.{1}} {Q : PUnit.{1} → sProp (MT nD τ sig Unit (Elt F) ℕ UU ℕ)}
  (s : Fin 3) (c : Dev nD) (K : GSem nD τ sig → ℕ) (l : List (GSem nD τ sig × ℕ)) (W : Waits sig Unit)

/-- A unit on partner `s`'s barrier hands that partner the own landing slot `s`. -/
theorem bar_signal {d : Dev nD} (hd : d = pt s c) (f) :
    iprop(records sv K ∗ owes (c : Thread nD τ) (oweL ((barCell (pt s c), 1) :: l)) W
        ∗ dutyTok ER (barCell (pt s c)) 0 s ∗ slotPts s c f ∗ reached ER (recvCell s c) 0 ∗ reached ER (exitCell c) 0)
      ⊢ iprop((owes (c : Thread nD τ) (oweL l) W -∗ wp frame (wpE (defs₀ (F := F)) 𝒱₀ c none) Set.univ (k ⟨⟩) Q)
          -∗ wp frame (wpE (defs₀ (F := F)) 𝒱₀ c none) Set.univ (.op (.semSignal (d : Thread nD τ) barrier0 1) k) Q) := by
  subst hd
  iintro ⟨#HI, HO, Ht, Hs, #Hr, #Hx⟩
  iapply (Rounds.wp_signal 𝒱₀ ER (Rd sv) (c : Thread nD τ) none (dst := (pt s c : Thread nD τ)) (sem := barrier0) (r := 0) (d := s) (κ := K (barCell (pt s c)))
      (by rw [duties_bar]; exact Finset.mem_univ _) (amount_bar sv (pt s c) s) () (oweL l) rfl) $$ [HO Ht Hs]
  isplitr; · iapply (inv_of sv K (meet_mem (pt s c))); iexact HI
  isplitl [HO]; · iexact HO
  isplitl [Ht]; · iexact Ht
  isplitl [Hs]
  · rw [payload_bar]; unfold barPay; rw [pt_pt]
    isplitl [Hs]; · iexists f; iexact Hs
    isplitr
    · iexact Hr
    · iexact Hx
  · iapply (reached_of sv K (pt s c)); iexact HI

/-- A unit on partner `s`'s exit. -/
theorem exit_signal {d : Dev nD} (hd : d = pt s c) :
    iprop(records sv K ∗ owes (c : Thread nD τ) (oweL ((exitCell (pt s c), 1) :: l)) W
        ∗ dutyTok ER (exitCell (pt s c)) 0 s ∗ reached ER (exitCell (pt s c)) 0)
      ⊢ iprop((owes (c : Thread nD τ) (oweL l) W -∗ wp frame (wpE (defs₀ (F := F)) 𝒱₀ c none) Set.univ (k ⟨⟩) Q)
          -∗ wp frame (wpE (defs₀ (F := F)) 𝒱₀ c none) Set.univ (.op (.semSignal (d : Thread nD τ) exitS 1) k) Q) := by
  subst hd
  iintro ⟨#HI, HO, Ht, #Hb⟩
  iapply (Rounds.wp_signal 𝒱₀ ER (Rd sv) (c : Thread nD τ) none (dst := (pt s c : Thread nD τ)) (sem := exitS) (r := 0) (d := s) (κ := K (exitCell (pt s c)))
      (by rw [duties_exit]; exact Finset.mem_univ _) (amount_exit sv (pt s c) s) () (oweL l) rfl) $$ [HO Ht]
  isplitr; · iapply (inv_of sv K (exit_mem (pt s c))); iexact HI
  isplitl [HO]; · iexact HO
  isplitl [Ht]; · iexact Ht
  isplitr
  · rw [payload_exit]; iempintro
  · iexact Hb

/-- The wait for the three partners' units on the barrier brings their landing slots. -/
theorem bar_wait (hl : (levAts L lv : sProp 𝕄) ⊢ MayWait (c : Thread nD τ) (.reg barrier0) () (oweL l)) :
    iprop(records sv K ∗ cred (tallyAt (barCell c) () 3) ∗ owes (c : Thread nD τ) (oweL l) W ∗ levAts L lv
        ∗ atPos ER (barCell c) 0 ∅ 0)
      ⊢ iprop(((∃ W', owes (c : Thread nD τ) (oweL l) W') ∗ atPos ER (barCell c) 1 ∅ 0 ∗ (barPay 0 c ∗ barPay 1 c ∗ barPay 2 c) -∗ wp frame (wpE (defs₀ (F := F)) 𝒱₀ c none) Set.univ (k ⟨⟩) Q)
          -∗ wp frame (wpE (defs₀ (F := F)) 𝒱₀ c none) Set.univ (.op (.semWait barrier0 3) k) Q) := by
  iintro ⟨#HI, Hc, HO, #Hlev, Hat⟩ Hk
  iapply (Rounds.wp_wait_rest_token 𝒱₀ ER (Rd sv) (c : Thread nD τ) none (κ := K (barCell c))
      (wpE_semWait_eq 𝒱₀ (c : Thread nD τ) none Set.univ) (Set.mem_univ _) () (O := oweL l) (W := W) (R := 0) (m := 0) (T := ∅)
      ((Nat.zero_add 3).trans (expect_bar sv c).symm)) $$ [Hc HO Hat]
  · isplitr; · iapply (inv_of sv K (meet_mem c)); iexact HI
    isplitl [Hc]; · iexact Hc
    isplitl [HO]; · iexact HO
    isplitr; · iapply hl; iexact Hlev
    iexact Hat
  iintro ⟨HO, Hat, -, Hpay⟩
  ihave Hp := (Entails.of_eq (rest_bar sv c)) $$ Hpay
  iapply Hk
  isplitl [HO]; · iexists _; iexact HO
  isplitl [Hat]; · iexact Hat
  iexact Hp

/-- The wait for the three partners' units on the exit. -/
theorem exit_wait :
    iprop(records sv K ∗ cred (tallyAt (exitCell c) () 3) ∗ owes (c : Thread nD τ) (oweL []) W
        ∗ atPos ER (exitCell c) 0 ∅ 0)
      ⊢ iprop(((∃ W', owes (c : Thread nD τ) (0 : CellTallies nD τ sig Unit) W') ∗ atPos ER (exitCell c) 1 ∅ 0 -∗ wp frame (wpE (defs₀ (F := F)) 𝒱₀ c none) Set.univ (k ⟨⟩) Q)
          -∗ wp frame (wpE (defs₀ (F := F)) 𝒱₀ c none) Set.univ (.op (.semWait exitS 3) k) Q) := by
  rw [oweL_nil]
  iintro ⟨#HI, Hc, HO, Hat⟩ Hk
  iapply (Rounds.wp_wait_rest_token 𝒱₀ ER (Rd sv) (c : Thread nD τ) none (κ := K (exitCell c))
      (wpE_semWait_eq 𝒱₀ (c : Thread nD τ) none Set.univ) (Set.mem_univ _) () (O := 0) (W := W) (R := 0) (m := 0) (T := ∅)
      ((Nat.zero_add 3).trans (expect_exit sv c).symm)) $$ [Hc HO Hat]
  · isplitr; · iapply (inv_of sv K (exit_mem c)); iexact HI
    isplitl [Hc]; · iexact Hc
    isplitl [HO]; · iexact HO
    isplitr; · rw [MayWait_zero]; iempintro
    iexact Hat
  iintro ⟨HO, Hat, -, Hpay⟩
  iapply Hk
  isplitl [HO]; · iexists _; iexact HO
  iexact Hat

/-- The copy of step `s`: the sending buffer goes to partner `s`'s landing slot `s`. -/
theorem copy_send {d : Dev nD} (hd : d = pt s c) {hsc : (slotM s).view.ref.isScScratch = false}
    {hsrc : sbM.view.WordExact} {hdst : (slotM s).view.WordExact}
    {hsem : DmaTarget.Typed .vmem (.dma (recvS s)) (.remote (d : Thread nD τ) (slotM s) (.dma (sendS s)) hsc)}
    (w : S2x128x512.Idx → Elt F .bf16) (hw : w = sv s c) (fd) :
    iprop(records sv K
        ∗ sbPts c w ∗ slotPts s (pt s c) fd ∗ owes (c : Thread nD τ) (oweL ((recvCell s (pt s c), N) :: l)) W
        ∗ dutyTok ER (sendCell s c) 0 0 ∗ reached ER (sendCell s c) 0
        ∗ dutyTok ER (recvCell s (pt s c)) 0 0 ∗ reached ER (recvCell s (pt s c)) 0)
      ⊢ iprop((cred (tallyAt (sendCell s c) () N) ∗ owes (c : Thread nD τ) (oweL l) W -∗ wp frame (wpE (defs₀ (F := F)) 𝒱₀ c none) Set.univ (k ⟨⟩) Q)
          -∗ wp frame (wpE (defs₀ (F := F)) 𝒱₀ c none) Set.univ (.op (.enqueueDma sbM (.remote (d : Thread nD τ) (slotM s) (.dma (sendS s)) hsc) (.dma (recvS s)) hsrc hdst hsem) k) Q) := by
  subst hw; subst hd
  iintro ⟨#HI, Hsb, Hd, HO, HtS, #HrS, HtR, #HrR⟩
  iapply (Rounds.wp_send_pointsTo 𝒱₀ ER (Rd sv) (c : Thread nD τ) none (c' := (pt s c : Thread nD τ)) (src := sbM) (dst := slotM s)
      (sS := .dma (sendS s)) (sem := .dma (recvS s)) (q := fullShare) (fs := sv s c) (κ₁ := K (sendCell s c)) (κ₂ := K (recvCell s (pt s c)))
      (r₁ := 0) (r₂ := 0) (d₁ := 0) (d₂ := 0) (fd := fd)
      (by rw [duties_send]; exact Finset.mem_singleton_self _) (by rw [duties_recv]; exact Finset.mem_singleton_self _)
      () () N (slot_credit s) (amount_send sv s c 0) (amount_recv sv s (pt s c) 0) (oweL l) rfl (W := W)
      (by rw [payload_send]; exact BI.Entails.refl _)
      (by
        rw [payload_recv]; unfold recvPay slotHas; rw [pt_pt]
        iintro H
        iexists (slotM s).view.write (Elt F) fd (sbM.view.read (Elt F) (sv s c)) Finset.univ
        isplitr
        · ipureintro
          exact (View.read_write_univ _ _).trans (View.read_whole cc0_scratch1 (sv s c))
        · unfold slotPts; iexact H)) $$ [Hsb Hd HO HtS HtR]
  isplitr; · iapply (inv_of sv K (send_mem s c)); iexact HI
  isplitr; · iapply (inv_of sv K (recv_mem s (pt s c))); iexact HI
  isplitl [Hsb]; · unfold sbPts; iexact Hsb
  isplitl [Hd]; · unfold slotPts; iexact Hd
  isplitl [HO]; · iexact HO
  isplitl [HtS]; · iexact HtS
  isplitr; · iexact HrS
  isplitl [HtR]; · iexact HtR
  iexact HrR

/-- The wait for the own copy of step `s` to have gone out brings the sending buffer back. -/
theorem send_wait {sp : Space} {sh : Shape} {e : EltTy} {src : Memref sig .tc sp sh e} {h₁ : src.view.WordExact} {h₂ : sbM.view.WordExact}
    (hl : (levAts L lv : sProp 𝕄) ⊢ MayWait (c : Thread nD τ) (.dma (sendS s)) () (oweL l)) :
    iprop(records sv K ∗ cred (tallyAt (sendCell s c) () N) ∗ owes (c : Thread nD τ) (oweL l) W ∗ levAts L lv
        ∗ atPos ER (sendCell s c) 0 ∅ 0)
      ⊢ iprop(((∃ W', owes (c : Thread nD τ) (oweL l) W') ∗ atPos ER (sendCell s c) 1 ∅ 0 ∗ sbPts c (sv s c) -∗ wp frame (wpE (defs₀ (F := F)) 𝒱₀ c none) Set.univ (k ⟨⟩) Q)
          -∗ wp frame (wpE (defs₀ (F := F)) 𝒱₀ c none) Set.univ (.op (.waitDma2 (sendS s) src sbM h₁ h₂) k) Q) := by
  iintro ⟨#HI, Hc, HO, #Hlev, Hat⟩ Hk
  iapply (Rounds.wp_wait_rest_token 𝒱₀ ER (Rd sv) (c : Thread nD τ) none (κ := K (sendCell s c))
      (wpE_waitDma2_eq 𝒱₀ (c : Thread nD τ) none Set.univ) (Set.mem_univ _) () (O := oweL l) (W := W) (R := 0) (m := 0) (T := ∅)
      ((Nat.zero_add _).trans (expect_send sv s c).symm)) $$ [Hc HO Hat]
  · isplitr; · iapply (inv_of sv K (send_mem s c)); iexact HI
    isplitl [Hc]; · iexact Hc
    isplitl [HO]; · iexact HO
    isplitr; · iapply hl; iexact Hlev
    iexact Hat
  iintro ⟨HO, Hat, -, Hpay⟩
  ihave Hp := (Entails.of_eq (rest_send sv s c)) $$ Hpay
  unfold sendPay
  iapply Hk
  isplitl [HO]; · iexists _; iexact HO
  isplitl [Hat]; · iexact Hat
  iexact Hp

/-- The wait for partner `s`'s copy brings the own landing slot `s`, holding what the partner sent. -/
theorem recv_wait {sp : Space} {sh : Shape} {e : EltTy} {src : Memref sig .tc sp sh e} {h₁ : src.view.WordExact} {h₂ : (slotM s).view.WordExact}
    (hl : (levAts L lv : sProp 𝕄) ⊢ MayWait (c : Thread nD τ) (.dma (recvS s)) () (oweL l)) :
    iprop(records sv K ∗ cred (tallyAt (recvCell s c) () N) ∗ owes (c : Thread nD τ) (oweL l) W ∗ levAts L lv
        ∗ atPos ER (recvCell s c) 0 ∅ 0)
      ⊢ iprop(((∃ W', owes (c : Thread nD τ) (oweL l) W') ∗ atPos ER (recvCell s c) 1 ∅ 0 ∗ slotHas s c (sv s (pt s c)) -∗ wp frame (wpE (defs₀ (F := F)) 𝒱₀ c none) Set.univ (k ⟨⟩) Q)
          -∗ wp frame (wpE (defs₀ (F := F)) 𝒱₀ c none) Set.univ (.op (.waitDma2 (recvS s) src (slotM s) h₁ h₂) k) Q) := by
  iintro ⟨#HI, Hc, HO, #Hlev, Hat⟩ Hk
  iapply (Rounds.wp_wait_rest_token 𝒱₀ ER (Rd sv) (c : Thread nD τ) none (κ := K (recvCell s c)) (k' := N)
      (fun K => (wpE_waitDma2_eq 𝒱₀ (c : Thread nD τ) none Set.univ K).trans (by rw [slot_credit])) (Set.mem_univ _) () (O := oweL l) (W := W) (R := 0) (m := 0) (T := ∅)
      ((Nat.zero_add _).trans (expect_recv sv s c).symm)) $$ [Hc HO Hat]
  · isplitr; · iapply (inv_of sv K (recv_mem s c)); iexact HI
    isplitl [Hc]; · iexact Hc
    isplitl [HO]; · iexact HO
    isplitr; · iapply hl; iexact Hlev
    iexact Hat
  iintro ⟨HO, Hat, -, Hpay⟩
  ihave Hp := (Entails.of_eq (rest_recv sv s c)) $$ Hpay
  unfold recvPay
  iapply Hk
  isplitl [HO]; · iexists _; iexact HO
  isplitl [Hat]; · iexact Hat
  iexact Hp

end Steps

end Cert.KernelIdeal.Exch

end
-- ==== Proof.KernelIdeal.Contents.lean ====
/-
  What each device's buffers hold, as functions of the five operands that the device has in its staging buffers:
  the query projection of a batch, one head's attention, the heads side by side, and the partial product, which is
  what the device holds before the first exchange.
-/
module

public import proofs.«01_k».proof.Proof.KernelIdeal.Cells
public import Idealize.ShloMosaic.Lib.VecWindow
public import Idealize.ShloMosaic.PureOps

@[expose] public section

set_option maxRecDepth 16384

noncomputable section

namespace Cert.KernelIdeal.Exch

open Cert.KernelIdeal Cert.KernelIdeal.Gen
open Idealize.ShloMosaic

variable {F : FTy → Type} [FloatOps F]

/-! ## Tiles side by side -/

section Tiles

variable {α : Type}

/-- Eight blocks of 64 columns, side by side. -/
def colsOf (P : Fin 8 → S128x64.Idx → α) : S128x512.Idx → α := fun j =>
  P ⟨(j 1).val / 64, Nat.div_lt_of_lt_mul (j 1).isLt⟩ (Fin.cons (j 0) (Fin.cons ⟨(j 1).val % 64, Nat.mod_lt _ (by decide)⟩ finZeroElim))

/-- Two batches, one after the other. -/
def rowsOf (P : Fin 2 → S1x128x512.Idx → α) : S2x128x512.Idx → α := fun j =>
  P (j 0) (Fin.cons ⟨0, by decide⟩ (Fin.cons (j 1) (Fin.cons (j 2) finZeroElim)))

end Tiles

section Reads

variable {sig : RefSig} {κ : Kind} {sp : Space} {e : EltTy} {Val : EltTy → Type}

abbrev colOff (h : Fin 8) : Fin 2 → ℕ := ![0, 64 * h.val]
theorem colOff_inb (h : Fin 8) : ∀ a, colOff h a + S128x64.size a ≤ S128x512.size a := by revert h; decide
abbrev rowOff (b : Fin 2) : Fin 3 → ℕ := ![b.val, 0, 0]
theorem rowOff_inb (b : Fin 2) : ∀ a, rowOff b a + S1x128x512.size a ≤ S2x128x512.size a := by revert b; decide

/-- The stores of eight blocks of columns, in their order, and whatever was stored before, leave the blocks side by side. -/
theorem read_cols (v : View sig κ sp S128x512 e) (f : v.ty.Contents Val) (P : Fin 8 → S128x64.Idx → Val e) :
    v.read Val (v.writes Val f (View.tilePieces (NT := 8) S128x64.size colOff colOff_inb P 8 le_rfl)) = colsOf P := by
  funext j
  refine View.read_tilePieces v f S128x64.size colOff colOff_inb P 8 le_rfl j ⟨(j 1).val / 64, Nat.div_lt_of_lt_mul (j 1).isLt⟩ (Fin.isLt _) _ ?_ (1 : Fin 2) ?_
  · intro a
    fin_cases a
    · show (j 0).val = 0 + (j 0).val; omega
    · show (j 1).val = 64 * ((j 1).val / 64) + (j 1).val % 64; omega
  · intro i hi
    have : i.val ≠ (j 1).val / 64 := fun h => hi (Fin.ext h)
    show (j 1).val < 64 * i.val ∨ 64 * i.val + 64 ≤ (j 1).val
    omega

/-- The stores of two batches, in their order, leave the batches one after the other. -/
theorem read_rows (v : View sig κ sp S2x128x512 e) (f : v.ty.Contents Val) (P : Fin 2 → S1x128x512.Idx → Val e) :
    v.read Val (v.writes Val f (View.tilePieces (NT := 2) S1x128x512.size rowOff rowOff_inb P 2 le_rfl)) = rowsOf P := by
  funext j
  refine View.read_tilePieces v f S1x128x512.size rowOff rowOff_inb P 2 le_rfl j (j 0) (Fin.isLt _) _ ?_ (0 : Fin 3) ?_
  · intro a
    fin_cases a
    · show (j 0).val = (j 0).val + 0; omega
    · show (j 1).val = 0 + (j 1).val; omega
    · show (j 2).val = 0 + (j 2).val; omega
  · intro i hi
    have : i.val ≠ (j 0).val := fun h => hi (Fin.ext h)
    show (j 0).val < i.val ∨ i.val + 1 ≤ (j 0).val
    omega

end Reads

/-! ## What the device computes -/

/-- The five operands of one device. -/
structure Ops (F : FTy → Type) where
  x : S2x128x512.Idx → Elt F .bf16
  wq : S512x512.Idx → Elt F .bf16
  wo : S512x512.Idx → Elt F .bf16
  k : S2x16x128x64.Idx → Elt F .bf16
  v : S2x16x128x64.Idx → Elt F .bf16

/-- The batch `b` of the activations. -/
abbrev xRow (X : S2x128x512.Idx → Elt F .bf16) (b : Fin 2) : Vec F S1x128x512 .bf16 :=
  VecWindow.window X (rowOff b) S1x128x512.size (rowOff_inb b)

/-- The query projection of batch `b`. -/
def qProj (A : Ops F) (b : Fin 2) : FVec F S128x512 .f32 := k0_pay1 (xRow A.x b) A.wq

abbrev kvOff (c : Dev nD) (b : Fin 2) (g : Fin 2) : Fin 4 → ℕ := ![b.val, 2 * c.val + g.val, 0, 0]
theorem kvOff_inb (c : Dev nD) (b g : Fin 2) : ∀ a, kvOff c b g a + S1x1x128x64.size a ≤ S2x16x128x64.size a := by
  revert c b g; decide +kernel

/-- Device `c`'s key or value head `g` of batch `b`. -/
abbrev kvSlab (c : Dev nD) (X : S2x16x128x64.Idx → Elt F .bf16) (b g : Fin 2) : Vec F S1x1x128x64 .bf16 :=
  VecWindow.window X (kvOff c b g) S1x1x128x64.size (kvOff_inb c b g)

theorem off1_eq (c : Dev nD) (g : Fin 2) : k0_off1 c (BitVec.ofNat 32 g.val) = kvOff c 0 g := by revert c g; decide +kernel
theorem off2_eq (c : Dev nD) (g : Fin 2) : k0_off2 c (BitVec.ofNat 32 g.val) = kvOff c 1 g := by revert c g; decide +kernel

theorem slices_col (h : Fin 8) : S128x512.Slices (colOff h) S128x64 := by revert h; decide

/-- One head's attention, from its query block, keys and values. -/
def headOut (q : FVec F S128x64 .f32) (k v : Vec F S1x1x128x64 .bf16) : FVec F S128x64 .bf16 :=
  k0_pay12 (truncf .bf16 q bitsLt_bf16_f32) (k0_pay11 k) v

/-- Head `h` of a projected batch. -/
def headAt (q : FVec F S128x512 .f32) (K V : Fin 2 → Vec F S1x1x128x64 .bf16) (h : Fin 8) : FVec F S128x64 .bf16 :=
  headOut (extractStridedSlice S128x64 (colOff h) q (slices_col h))
    (K ⟨h.val / 4, Nat.div_lt_of_lt_mul h.isLt⟩) (V ⟨h.val / 4, Nat.div_lt_of_lt_mul h.isLt⟩)

/-- The heads of batch `b`, side by side. -/
def heads (c : Dev nD) (A : Ops F) (b : Fin 2) : Vec F S128x512 .bf16 :=
  colsOf (headAt (qProj A b) (kvSlab c A.k b) (kvSlab c A.v b))

/-- The partial product of device `c`. -/
def out0 (c : Dev nD) (A : Ops F) : S2x128x512.Idx → Elt F .f32 := rowsOf fun b => k0_pay18 (heads c A b) A.wo

/-! ## The exchange -/

/-- The rounding of a block to the copies' element type. -/
def rnd (o : S2x128x512.Idx → Elt F .f32) : S2x128x512.Idx → Elt F .bf16 := k0_pay37 o

/-- What a device that held `o` holds after adding the block `w`. -/
def addIn (o : S2x128x512.Idx → Elt F .f32) (w : S2x128x512.Idx → Elt F .bf16) : S2x128x512.Idx → Elt F .f32 :=
  addf (F := F) (s := S2x128x512) (φ := .f32) (k0_pay38 o) (extf (F := F) .f32 (φ := .bf16) w bitsLt_bf16_f32)

section Steps

variable (A : Dev nD → Ops F)

/-- What device `c` holds after the first exchange, -/
def out1 (c : Dev nD) : S2x128x512.Idx → Elt F .f32 := addIn (out0 c (A c)) (rnd (out0 (pt 0 c) (A (pt 0 c))))
/-- after the second -/
def out2 (c : Dev nD) : S2x128x512.Idx → Elt F .f32 := addIn (out1 A c) (rnd (out1 A (pt 1 c)))
/-- and after the third, which is its result. -/
def out3 (c : Dev nD) : S2x128x512.Idx → Elt F .f32 := addIn (out2 A c) (rnd (out2 A (pt 2 c)))

/-- What device `c` sends in step `s`. -/
def sent : Fin 3 → Dev nD → S2x128x512.Idx → Elt F .bf16 :=
  ![fun c => rnd (out0 c (A c)), fun c => rnd (out1 A c), fun c => rnd (out2 A c)]

end Steps

/-! ## The heads as the kernel's lines compute them -/

/-- The first batch's heads. -/
theorem heads_first (q : FVec F S128x512 .f32) (K V : Fin 2 → Vec F S1x1x128x64 .bf16) :
    headAt q K V = ![k0_pay2 q (K 0) (V 0), k0_pay5 (k0_pay3 q (K 0)) k0_pay4 (V 0), k0_pay7 (k0_pay6 q (K 0)) (V 0), k0_pay8 q (K 0) (V 0),
      k0_pay9 q (K 1) (V 1), k0_pay12 (k0_pay10 q) (k0_pay11 (K 1)) (V 1), k0_pay15 (k0_pay13 q (K 1)) (k0_pay14 q (K 1)) (V 1),
      k0_pay17 (k0_pay16 q (K 1) (V 1))] := by
  funext h; fin_cases h <;> rfl

/-- The second batch's heads. -/
theorem heads_second (x : Vec F S1x128x512 .bf16) (w : Vec F S512x512 .bf16) (K V : Fin 2 → Vec F S1x1x128x64 .bf16) :
    headAt (k0_pay1 x w) K V = ![k0_pay22 (k0_pay20 x w (K 0)) (k0_pay21 x w (K 0)) (V 0), k0_pay24 (k0_pay23 (k0_pay19 x w) (K 0) (V 0)),
      k0_pay25 (k0_pay19 x w) (K 0) (V 0), k0_pay27 (k0_pay26 (k0_pay19 x w)) (K 0) (V 0),
      k0_pay29 (k0_pay28 (k0_pay19 x w) (K 1)) (V 1),
      k0_pay32 (k0_pay30 (k0_pay19 x w) (K 1)) (k0_pay31 (V 1)) (constant S128x64 .f32 0x00000000#32),
      k0_pay33 (k0_pay19 x w) (K 1) (V 1), k0_pay35 (k0_pay34 (k0_pay19 x w)) (K 1) (V 1)] := by
  funext h; fin_cases h <;> rfl

end Cert.KernelIdeal.Exch

end
-- ==== Proof.KernelIdeal.Local.lean ====
/-
  The part of the kernel's run in which a device computes its own partial product: from the barrier's end to the first
  exchange it touches no other device.
-/
module

public import proofs.«01_k».proof.Proof.KernelIdeal.Contents
public import proofs.«01_k».proof.Proof.KernelIdeal.Schedule

@[expose] public section

set_option maxRecDepth 16384

noncomputable section

namespace Cert.KernelIdeal.Exch

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- A whole buffer of device `c`, holding `f`. -/
abbrev bufIs (c : Dev nD) (b : Ref sig .tc) (f : b.ty.Contents (Elt F)) : sProp 𝕄 :=
  (Memref.whole b).view.loc (c : Thread nD τ) ↦{fullShare} f

/-! ## What the two written buffers hold -/

section Reads

variable (c : Dev nD) (X : S2x16x128x64.Idx → Elt F .bf16)

theorem k_read1 (g : Fin 2) :
    (Memref.whole cc0_stg3_0).view.readAt (Elt F) (Rect.unit (s := S2x16x128x64) (k0_off1 c (BitVec.ofNat 32 g.val)) S1x1x128x64.size (k0_off1_inb c g)).toLoadRect X
      = kvSlab c X 0 g := View.readAt_unit _ _ _ (off1_eq c g) (kvOff_inb c 0 g)
theorem v_read1 (g : Fin 2) :
    (Memref.whole cc0_stg4_0).view.readAt (Elt F) (Rect.unit (s := S2x16x128x64) (k0_off1 c (BitVec.ofNat 32 g.val)) S1x1x128x64.size (k0_off1_inb c g)).toLoadRect X
      = kvSlab c X 0 g := View.readAt_unit _ _ _ (off1_eq c g) (kvOff_inb c 0 g)
theorem k_read2 (g : Fin 2) :
    (Memref.whole cc0_stg3_0).view.readAt (Elt F) (Rect.unit (s := S2x16x128x64) (k0_off2 c (BitVec.ofNat 32 g.val)) S1x1x128x64.size (k0_off2_inb c g)).toLoadRect X
      = kvSlab c X 1 g := View.readAt_unit _ _ _ (off2_eq c g) (kvOff_inb c 1 g)
theorem v_read2 (g : Fin 2) :
    (Memref.whole cc0_stg4_0).view.readAt (Elt F) (Rect.unit (s := S2x16x128x64) (k0_off2 c (BitVec.ofNat 32 g.val)) S1x1x128x64.size (k0_off2_inb c g)).toLoadRect X
      = kvSlab c X 1 g := View.readAt_unit _ _ _ (off2_eq c g) (kvOff_inb c 1 g)

theorem x_read (X : S2x128x512.Idx → Elt F .bf16) :
    (Memref.whole cc0_stg0_0).view.readAt (Elt F) (Rect.unit (s := S2x128x512) ![1, 0, 0] S1x128x512.size inb_S2x128x512_S1x128x512_1_0_0).toLoadRect X
      = xRow X 1 := rfl
theorem wq_read (X : S512x512.Idx → Elt F .bf16) :
    (Memref.whole cc0_stg1_0).view.readAt (Elt F) (Rect.unit (s := S512x512) ![0, 0] S512x512.size inb_S512x512_S512x512_0_0).toLoadRect X = X :=
  View.readAt_full _ _ _
theorem wo_read (X : S512x512.Idx → Elt F .bf16) :
    (Memref.whole cc0_stg2_0).view.readAt (Elt F) (Rect.unit (s := S512x512) ![0, 0] S512x512.size inb_S512x512_S512x512_0_0).toLoadRect X = X :=
  View.readAt_full _ _ _

end Reads

/-- A whole load of the buffer of heads after the stores of eight heads, and others before them, reads the heads. -/
theorem heads_read (P : Fin 8 → S128x64.Idx → Elt F .bf16) (L : List (View.Piece (Elt F) S128x512 .bf16)) :
    (Memref.whole cc0_scratch0).view.readCov (View.tilePieces (s := S128x512) (NT := 8) S128x64.size colOff colOff_inb P 8 le_rfl ++ L)
      (Rect.unit ![0, 0] S128x512.size inb_S128x512_S128x512_0_0).toLoadRect = colsOf P := by
  unfold View.readCov
  rw [View.writes_append]
  exact (View.readAt_full _ _ _).trans (read_cols _ _ _)

/-- The stores of the two batches' products leave them one after the other. -/
theorem rows_write (f : S2x128x512.Idx → Elt F .f32) (P : Fin 2 → S1x128x512.Idx → Elt F .f32) :
    (Memref.whole cc0_stg5_0).view.writes (Elt F) f [⟨Rect.unit ![1, 0, 0] S1x128x512.size inb_S2x128x512_S1x128x512_1_0_0, P 1⟩,
      ⟨Rect.unit ![0, 0, 0] S1x128x512.size inb_S2x128x512_S1x128x512_0_0_0, P 0⟩] = rowsOf P :=
  (View.read_whole cc0_stg5_0 _).symm.trans (read_rows (Memref.whole cc0_stg5_0).view f P)

/-- The two batches' products are computed by the same lines. -/
theorem product_eq : (k0_pay36 : Vec F S128x512 .bf16 → _) = k0_pay18 := rfl

/-! ## The run -/

/-- The kernel's lines from the barrier's end to the first exchange, then `k`. -/
def localProg (c : Dev nD) (v2 v25 c0_i32_19 : BitVec 32) (v24 : FVec F S128x512 .f32) (k : Vec F S2x128x512 .f32 → Prog (TpuEff nD τ sig (Elt F) Λ₀ .tc) PUnit) : Prog (TpuEff nD τ sig (Elt F) Λ₀ .tc) PUnit := do
  let ⟨v56, v63, v64⟩ : Σ' (v56 : BitVec 32) (v63 : FVec F S128x128 .f32), FVec F S128x128 .f32 ← k0_part2 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scoped0 c v2 v24 v25 c0_i32_19
  let ⟨v86, v105⟩ : Σ' (v86 : BitVec 32), FVec F S128x128 .bf16 ← k0_part3 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scoped0 c v2 v24 v56 v63 v64
  let v144 : FVec F S128x64 .bf16 ← k0_part4 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scoped0 c v2 v24 v86 v105
  let ⟨v176, v178, v182⟩ : Σ' (v176 : BitVec 32) (v178 : FVec F S128x64 .bf16), FVec F S128x64 .bf16 ← k0_part5 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scoped0 c v2 v24 v144
  let ⟨v206, v220, v222⟩ : Σ' (v206 : BitVec 32) (v220 : FVec F S128x128 .f32), FVec F S128x1 .f32 ← k0_part6 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scoped0 c v2 v24 v176 v178 v182
  let v261 : FVec F S128x64 .bf16 ← k0_part7 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scoped0 c v2 v24 v206 v220 v222
  let ⟨v276, v278, v292, v295⟩ : Σ' (v276 : FVec F S128x512 .f32) (v278 : BitVec 32) (v292 : FVec F S128x128 .f32), FVec F S128x128 .f32 ← k0_part8 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scoped0 c v2 v261
  let v333 : FVec F S128x64 .bf16 ← k0_part9 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scoped0 c v2 v276 v278 v292 v295
  let ⟨v368, v370⟩ : Σ' (v368 : BitVec 32), FVec F S128x64 .bf16 ← k0_part10 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scoped0 c v2 v276 v333
  let ⟨v398, v412⟩ : Σ' (v398 : BitVec 32), FVec F S128x128 .f32 ← k0_part11 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scoped0 c v2 v276 v368 v370
  let ⟨v447, v451, cst_231⟩ : Σ' (v447 : FVec F S128x128 .bf16) (v451 : FVec F S128x64 .bf16), FVec F S128x64 .f32 ← k0_part12 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scoped0 c v2 v276 v398 v412
  let ⟨v488, v490⟩ : Σ' (v488 : BitVec 32), FVec F S128x64 .bf16 ← k0_part13 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scoped0 c v2 v276 v447 v451 cst_231
  let v524 : Vec F S2x128x512 .f32 ← k0_part14 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scoped0 c v488 v490
  k v524

/-- The five operands held, the output buffer and the buffer of heads held at anything, the lines run and leave the partial
    product in the output buffer. -/
theorem local_run (c : Dev nD) (A : Ops F) (X5 : S2x128x512.Idx → Elt F .f32) (X6 : S128x512.Idx → Elt F .bf16)
    (v2 v25 v26 : BitVec 32) (k : Vec F S2x128x512 .f32 → Prog (TpuEff nD τ sig (Elt F) Λ₀ .tc) PUnit) (Kt) :
    iprop((bufIs c cc0_stg0_0 A.x ∗ bufIs c cc0_stg1_0 A.wq ∗ bufIs c cc0_stg2_0 A.wo ∗ bufIs c cc0_stg3_0 A.k ∗ bufIs c cc0_stg4_0 A.v
        ∗ bufIs c cc0_stg5_0 X5 ∗ bufIs c cc0_scratch0 X6)
      ∗ ((bufIs c cc0_stg0_0 A.x ∗ bufIs c cc0_stg1_0 A.wq ∗ bufIs c cc0_stg2_0 A.wo ∗ bufIs c cc0_stg3_0 A.k ∗ bufIs c cc0_stg4_0 A.v
        ∗ bufIs c cc0_stg5_0 (out0 c A) ∗ ∃ f, bufIs c cc0_scratch0 f)
        -∗ wp frame (wpE (defs₀ (F := F)) 𝒱₀ c none) Set.univ (k (out0 c A)) Kt))
      ⊢ (wp frame (wpE (defs₀ (F := F)) 𝒱₀ c none) Set.univ (localProg c v2 v25 v26 (qProj A 0) k) Kt : sProp 𝕄) := by
  obtain ⟨X0, X1, X2, X3, X4⟩ := A
  dsimp only
  generalize hq : qProj (⟨X0, X1, X2, X3, X4⟩ : Ops F) 0 = v24
  unfold localProg
  iintro ⟨⟨H0, H1, H2, H3, H4, H5, H6⟩, Hk⟩
  rw [k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton]
  unfold k0_part2_skel k0_part3_skel k0_part4_skel k0_part5_skel k0_part6_skel k0_part7_skel k0_part8_skel k0_part9_skel k0_part10_skel k0_part11_skel k0_part12_skel k0_part13_skel k0_part14_skel
  sl_exec
  have e0 : local_run.sl.v265 c X3 X4 v24 = heads c ⟨X0, X1, X2, X3, X4⟩ 0 := by
    unfold local_run.sl.v265 heads
    rw [hq, heads_first, ← heads_read _ []]
    unfold local_run.sl.H6_8
    rw [← k_read1 c X3 0, ← k_read1 c X3 1, ← v_read1 c X4 0, ← v_read1 c X4 1]
    rfl
  have e1 : local_run.sl.v517 c X0 X1 X3 X4 v24 = heads c ⟨X0, X1, X2, X3, X4⟩ 1 := by
    unfold local_run.sl.v517 heads qProj
    rw [heads_second, ← heads_read _ (local_run.sl.H6_8 c X3 X4 v24)]
    unfold local_run.sl.H6_16
    rw [← k_read2 c X3 0, ← k_read2 c X3 1, ← v_read2 c X4 0, ← v_read2 c X4 1, wq_read, x_read]
    rfl
  have e5 (f : S2x128x512.Idx → Elt F .f32) :
      (Memref.whole cc0_stg5_0).view.writes (Elt F) f (local_run.sl.H5_2 c X0 X1 X2 X3 X4 v24) = out0 c ⟨X0, X1, X2, X3, X4⟩ := by
    unfold local_run.sl.H5_2 out0
    rw [e0, e1, wo_read, product_eq]
    exact rows_write f fun b => k0_pay18 (heads c ⟨X0, X1, X2, X3, X4⟩ b) X2
  have e6 : local_run.sl.v524 c X0 X1 X2 X3 X4 v24 = out0 c ⟨X0, X1, X2, X3, X4⟩ := by
    unfold local_run.sl.v524 View.readCov
    rw [e5]
    exact View.readAt_full _ _ _
  rw [e5, e6]
  iapply Hk
  iframe H0 H1 H2 H3 H4 H5
  iexists _; iexact H6

end Cert.KernelIdeal.Exch

end
-- ==== Proof.KernelIdeal.Exchange.lean ====
/-
  The exchange: three steps, each of which rounds the sum so far, sends it to a partner and adds what that partner sent.
-/
module

public import proofs.«01_k».proof.Proof.KernelIdeal.Steps
public import proofs.«01_k».proof.Proof.KernelIdeal.Local

@[expose] public section

set_option maxRecDepth 16384

noncomputable section

namespace Cert.KernelIdeal.Exch

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- The kernel's lines from the first exchange to the end. -/
def exchangeProg (c : Dev nD) (v6 v10 v12 : BitVec 32) (v524 : Vec F S2x128x512 .f32) : Prog (TpuEff nD τ sig (Elt F) Λ₀ .tc) PUnit := do
  let v549 : FVec F S2x128x512 .f32 ← k0_part15 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scoped0 c v6 v524
  k0_part16 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scoped0 c v10 v549
  k0_part17 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scoped0 c v12
  k0_part18 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scoped0 c v6 v10 v12
  semWaitWord cc0_scoped0.sem 3#32
  pure ⟨⟩

/-- The sending buffer, held whole. -/
theorem sb_whole (c : Dev nD) (f : S2x128x512.Idx → Elt F .bf16) : (sbPts c f : sProp 𝕄) = bufIs c cc0_scratch1 f := by
  unfold sbPts bufIs
  rw [View.set_whole]

/-- A landing slot as the loads of it see it. -/
theorem slot_load (s : Fin 3) (c : Dev nD) (f) : (slotPts s c f : sProp 𝕄) = iprop((slotV s).view.loc (c : Thread nD τ) ↦[(slotV s).view.set]{fullShare} f) := by
  unfold slotPts
  rw [show (slotM s).view.set = (slotV s).view.set from View.set_reshape _ _]

/-- A program that has returned goes on. -/
theorem ret_bind {Eff α β} (a : α) (k : α → Prog Eff β) : (Prog.ret a).bind k = k a := rfl
theorem bind_form {Eff α β} (p : Prog Eff α) (k : α → Prog Eff β) : p.bind k = p >>= k := rfl

/-- A whole store into the sending buffer leaves what was stored. -/
theorem sb_store (f P : S2x128x512.Idx → Elt F .bf16) (L : List (View.Piece (Elt F) S2x128x512 .bf16)) :
    (Memref.whole cc0_scratch1).view.writes (Elt F) f (⟨Rect.unit ![0, 0, 0] S2x128x512.size inb_S2x128x512_S2x128x512_0_0_0, P⟩ :: L) = P :=
  (View.read_whole cc0_scratch1 _).symm.trans (View.read_writes_full _ _ _ _ _)
/-- A whole store into the output buffer leaves what was stored. -/
theorem out_store (f P : S2x128x512.Idx → Elt F .f32) (L : List (View.Piece (Elt F) S2x128x512 .f32)) :
    (Memref.whole cc0_stg5_0).view.writes (Elt F) f (⟨Rect.unit ![0, 0, 0] S2x128x512.size inb_S2x128x512_S2x128x512_0_0_0, P⟩ :: L) = P :=
  (View.read_whole cc0_stg5_0 _).symm.trans (View.read_writes_full _ _ _ _ _)

/-- A whole load of the output buffer is what it holds. -/
theorem out_load (o : S2x128x512.Idx → Elt F .f32) :
    (Memref.whole cc0_stg5_0).view.readAt (Elt F) (Rect.unit ![0, 0, 0] S2x128x512.size inb_S2x128x512_S2x128x512_0_0_0).toLoadRect o = o :=
  (View.readAt_full _ _ _).trans (View.read_whole cc0_stg5_0 o)

/-- A whole load of the output buffer after a whole store is what was stored. -/
theorem out_reload (P : S2x128x512.Idx → Elt F .f32) (L : List (View.Piece (Elt F) S2x128x512 .f32)) :
    (Memref.whole cc0_stg5_0).view.readCov (⟨Rect.unit ![0, 0, 0] S2x128x512.size inb_S2x128x512_S2x128x512_0_0_0, P⟩ :: L)
      (Rect.unit ![0, 0, 0] S2x128x512.size inb_S2x128x512_S2x128x512_0_0_0).toLoadRect = P :=
  View.readCov_full _ _ _ _ _

/-- A load of a landing slot, with its leading dimension dropped, is what the slot holds. -/
theorem slot_read (s : Fin 3) (f : cc0_scratch2.ty.Contents (Elt F)) :
    shapeCast S2x128x512 (rbM.view.readAt (Elt F) (slotR s).toLoadRect f) shapeCasts_S1x2x128x512_S2x128x512 = (slotM s).view.read (Elt F) f := rfl

/-- The first exchange adds what slot 0 holds. -/
theorem added0 (o : S2x128x512.Idx → Elt F .f32) (f : cc0_scratch2.ty.Contents (Elt F)) :
    k0_pay39 (k0_pay38 o) (rbM.view.readAt (Elt F) (slotR 0).toLoadRect f) = addIn o ((slotM 0).view.read (Elt F) f) := by
  rw [← slot_read]; rfl
/-- The second adds what slot 1 holds. -/
theorem added1 (o : S2x128x512.Idx → Elt F .f32) (f : cc0_scratch2.ty.Contents (Elt F)) :
    k0_pay41 o (rbM.view.readAt (Elt F) (slotR 1).toLoadRect f) = addIn o ((slotM 1).view.read (Elt F) f) := by
  rw [← slot_read]; rfl
/-- The third adds what slot 2 holds. -/
theorem added2 (o : S2x128x512.Idx → Elt F .f32) (f : cc0_scratch2.ty.Contents (Elt F)) :
    k0_pay43 o (rbM.view.readAt (Elt F) (slotR 2).toLoadRect f) = addIn o ((slotM 2).view.read (Elt F) f) := by
  rw [← slot_read]; rfl

/-- A device that has paid its first `n` debts may wait below the rest. -/
theorem mayWait_after (c : Dev nD) (sm : SemLoc sig) (n : ℕ) (h : ∀ x ∈ [1, 1, 1, 2, 3, 4, 5, 5, 5].drop n, lvS sm < x) :
    (levAts L lv : sProp 𝕄) ⊢ MayWait (c : Thread nD τ) sm () (oweL ((debts c).drop n)) :=
  mayWait c sm _ (fun p hp => debts_tc c p (List.mem_of_mem_drop hp)) _ (by rw [List.map_drop, debts_levels]) h

/-- What a device holds when the first exchange begins. -/
def exchangePre (A : Dev nD → Ops F) (K : GSem nD τ sig → ℕ) (c : Dev nD) (W : Waits sig Unit) : sProp 𝕄 :=
  iprop(records (sent A) K ∗ levAts L lv ∗ owes (c : Thread nD τ) (oweL (copies c)) W
    ∗ (bigSep Finset.univ fun k => iprop(atPos ER ((c : Thread nD τ), osem k) 0 ∅ 0 ∗ reached ER ((c : Thread nD τ), osem k) 0))
    ∗ (each (fun s => dutyTok ER (exitCell (pt s c)) 0 s) ∗ each (fun s => dutyTok ER (recvCell s (pt s c)) 0 0) ∗ each (fun s => dutyTok ER (sendCell s c) 0 0))
    ∗ (cred (tallyAt (exitCell c) () 3) ∗ each (fun s => cred (tallyAt (recvCell s c) () N)))
    ∗ each (fun s => barPay s c)
    ∗ bufIs c cc0_stg5_0 (out0 c (A c)) ∗ ∃ f, bufIs c cc0_scratch1 f)

/-- What it holds when the kernel ends. -/
def exchangePost (A : Dev nD → Ops F) (c : Dev nD) : sProp 𝕄 :=
  iprop((∃ W, owes (c : Thread nD τ) (0 : CellTallies nD τ sig Unit) W)
    ∗ (bigSep Finset.univ fun k => atPos ER ((c : Thread nD τ), osem k) 1 ∅ 0)
    ∗ each (fun s => iprop(∃ f, slotPts s c f))
    ∗ bufIs c cc0_stg5_0 (out3 A c) ∗ ∃ f, bufIs c cc0_scratch1 f)

set_option maxHeartbeats 2000000 in
/-- From the heads' product to the result. -/
theorem exchange_run (A : Dev nD → Ops F) (K : GSem nD τ sig → ℕ) (c : Dev nD) (W : Waits sig Unit) (v6 v10 v12 : BitVec 32) (Kt) :
    iprop(exchangePre A K c W ∗ (exchangePost A c -∗ Kt ⟨⟩))
      ⊢ (wp frame (wpE (defs₀ (F := F)) 𝒱₀ c none) Set.univ (exchangeProg c v6 v10 v12 (out0 c (A c))) Kt : sProp 𝕄) := by
  unfold exchangePre exchangePost exchangeProg each barPay
  rw [bigSep_seven, bigSep_seven]
  rw [k0_part15_eq_skeleton, k0_part16_eq_skeleton, k0_part17_eq_skeleton, k0_part18_eq_skeleton]
  unfold k0_part15_skel k0_part16_skel k0_part17_skel k0_part18_skel
  iintro ⟨⟨#HR, #Hlev, HO, ⟨⟨HaS0, #HrS0⟩, ⟨HaS1, #HrS1⟩, ⟨HaS2, #HrS2⟩, ⟨HaR0, #HrR0⟩, ⟨HaR1, #HrR1⟩, ⟨HaR2, #HrR2⟩, ⟨HaX, #HrX⟩⟩,
    ⟨⟨HtX0, HtX1, HtX2⟩, ⟨HtR0, HtR1, HtR2⟩, ⟨HtS0, HtS1, HtS2⟩⟩, ⟨HcX, HcR0, HcR1, HcR2⟩,
    ⟨⟨⟨%fd0, Hd0⟩, #HpR0, #HpX0⟩, ⟨⟨%fd1, Hd1⟩, #HpR1, #HpX1⟩, ⟨⟨%fd2, Hd2⟩, #HpR2, #HpX2⟩⟩, H5, ⟨%f1, H7⟩⟩, Hk⟩
  sl_exec
  rw [sb_store]
  iapply (copy_send (sent A) 0 c K _ _ (dev4_eq c) _ rfl fd0) $$ [HO HtS0 HtR0 H7 Hd0]
  · iframe HR HtS0 HrS0 HtR0 HpR0 Hd0 HO
    rw [sb_whole]; iexact H7
  iintro ⟨HcS0, HO⟩
  iapply (send_wait (sent A) 0 c K _ _ (mayWait_after c _ 4 (by decide))) $$ [HO HcS0 HaS0]
  · iframe HR Hlev HcS0 HO
    iexact HaS0
  iintro ⟨⟨%W1, HO⟩, HaS0, H7⟩
  iapply (recv_wait (sent A) 0 c K _ _ (mayWait_after c _ 4 (by decide))) $$ [HO HcR0 HaR0]
  · iframe HR Hlev HcR0 HO
    iexact HaR0
  unfold slotHas
  iintro ⟨⟨%W2, HO⟩, HaR0, ⟨%f0, %e0, H80⟩⟩
  ihave H7 := (Entails.of_eq (sb_whole c _)) $$ H7
  ihave H8 := (Entails.of_eq (slot_load 0 c f0)) $$ H80
  beta_reduce
  rw [ret_bind, bind_form]
  sl_exec
  have e5 : (Memref.whole cc0_stg5_0).view.writes (Elt F) (out0 c (A c)) (exchange_run.sl.H5_1 A c f0) = out1 A c := by
    unfold exchange_run.sl.H5_1
    rw [out_store, out_load]
    exact (added0 _ f0).trans (congrArg _ e0)
  have e7 : k0_pay40 (exchange_run.sl.v555 A c f0) = rnd (out1 A c) := by
    unfold exchange_run.sl.v555 exchange_run.sl.H5_1
    rw [out_reload]
    exact congrArg rnd (by rw [out_load]; exact (added0 _ f0).trans (congrArg _ e0))
  rw [sb_store, e7, e5]
  iapply (copy_send (sent A) 1 c K _ _ (dev5_eq c) _ rfl fd1) $$ [HO HtS1 HtR1 H7 Hd1]
  · iframe HR HtS1 HrS1 HtR1 HpR1 Hd1 HO
    rw [sb_whole]; iexact H7
  iintro ⟨HcS1, HO⟩
  iapply (send_wait (sent A) 1 c K _ _ (mayWait_after c _ 5 (by decide))) $$ [HO HcS1 HaS1]
  · iframe HR Hlev HcS1 HO
    iexact HaS1
  iintro ⟨⟨%W3, HO⟩, HaS1, H7⟩
  beta_reduce
  rw [ret_bind, bind_form]
  sl_exec
  iapply (recv_wait (sent A) 1 c K _ _ (mayWait_after c _ 5 (by decide))) $$ [HO HcR1 HaR1]
  · iframe HR Hlev HcR1 HO
    iexact HaR1
  unfold slotHas
  iintro ⟨⟨%W4, HO⟩, HaR1, ⟨%f2, %e1, H81⟩⟩
  ihave H7 := (Entails.of_eq (sb_whole c _)) $$ H7
  ihave H9 := (Entails.of_eq (slot_load 1 c f2)) $$ H81
  beta_reduce
  sl_exec
  have e5 : (Memref.whole cc0_stg5_0).view.writes (Elt F) (out1 A c) (exchange_run.sl.H5_1_1 A c f2) = out2 A c := by
    unfold exchange_run.sl.H5_1_1
    rw [out_store, out_load]
    exact (added1 _ f2).trans (congrArg _ e1)
  have e7 : k0_pay42 (exchange_run.sl.v586 A c f2) = rnd (out2 A c) := by
    unfold exchange_run.sl.v586 exchange_run.sl.H5_1_1
    rw [out_reload]
    exact congrArg rnd (by rw [out_load]; exact (added1 _ f2).trans (congrArg _ e1))
  rw [sb_store, e7, e5]
  iapply (copy_send (sent A) 2 c K _ _ (dev6_eq c) _ rfl fd2) $$ [HO HtS2 HtR2 H7 Hd2]
  · iframe HR HtS2 HrS2 HtR2 HpR2 Hd2 HO
    rw [sb_whole]; iexact H7
  iintro ⟨HcS2, HO⟩
  beta_reduce
  sl_exec
  iapply (send_wait (sent A) 2 c K _ _ (mayWait_after c _ 6 (by decide))) $$ [HO HcS2 HaS2]
  · iframe HR Hlev HcS2 HO
    iexact HaS2
  iintro ⟨⟨%W5, HO⟩, HaS2, H7⟩
  iapply (recv_wait (sent A) 2 c K _ _ (mayWait_after c _ 6 (by decide))) $$ [HO HcR2 HaR2]
  · iframe HR Hlev HcR2 HO
    iexact HaR2
  unfold slotHas
  iintro ⟨⟨%W6, HO⟩, HaR2, ⟨%f3, %e2, H82⟩⟩
  ihave H7 := (Entails.of_eq (sb_whole c _)) $$ H7
  ihave H10 := (Entails.of_eq (slot_load 2 c f3)) $$ H82
  beta_reduce
  rw [ret_bind, bind_form]
  sl_exec
  have e5 : k0_pay43 (out2 A c) ((Memref.whole cc0_scratch2).view.readAt (Elt F)
      (Rect.unit (s := S3x2x128x512) ![2, 0, 0, 0] S1x2x128x512.size inb_S3x2x128x512_S1x2x128x512_2_0_0_0).toLoadRect f3) = out3 A c :=
    (added2 _ f3).trans (congrArg _ e2)
  rw [out_store, out_load, e5]
  iapply (exit_signal (sent A) 0 c K _ _ (dev7_eq c)) $$ [HO HtX0]
  · iframe HR HtX0 HpX0
    iexact HO
  iintro HO
  sl_exec
  iapply (exit_signal (sent A) 1 c K _ _ (dev8_eq c)) $$ [HO HtX1]
  · iframe HR HtX1 HpX1
    iexact HO
  iintro HO
  sl_exec
  iapply (exit_signal (sent A) 2 c K _ _ (dev9_eq c)) $$ [HO HtX2]
  · iframe HR HtX2 HpX2
    iexact HO
  iintro HO
  sl_exec
  iapply (exit_wait (sent A) c K _) $$ [HO HcX HaX]
  · iframe HR HcX HaX
    iexact HO
  iintro ⟨⟨%W7, HO⟩, HaX⟩
  sl_exec
  rw [wp_ret]
  imodintro
  iapply Hk
  isplitl [HO]; · iexists W7; iexact HO
  isplitl [HaS0 HaS1 HaS2 HaR0 HaR1 HaR2 HaX]
  · isplitl [HaS0]; · iexact HaS0
    isplitl [HaS1]; · iexact HaS1
    isplitl [HaS2]; · iexact HaS2
    isplitl [HaR0]; · iexact HaR0
    isplitl [HaR1]; · iexact HaR1
    isplitl [HaR2]; · iexact HaR2
    iexact HaX
  isplitl [H8 H9 H10]
  · isplitl [H8]; · iexists f0; rw [slot_load]; iexact H8
    isplitl [H9]; · iexists f2; rw [slot_load]; iexact H9
    iexists f3; rw [slot_load]; iexact H10
  isplitl [H5]; · iexact H5
  iexists _; iexact H7

end Cert.KernelIdeal.Exch

end
-- ==== Proof.KernelIdeal.Body.lean ====
/-
  The kernel's body on one device: the barrier, the device's own lines, the exchange, and every semaphore closed at zero.
-/
module

public import proofs.«01_k».proof.Proof.KernelIdeal.Exchange

@[expose] public section

set_option maxRecDepth 16384

noncomputable section

namespace Cert.KernelIdeal.Exch

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

open Idealize.ShloMosaic.Rounds

variable {F : FTy → Type} [FloatOps F]

local notation "𝕄" => MT nD τ sig Unit (Elt F) ℕ UU ℕ

/-- The kernel's body, on the buffers it is called with. -/
abbrev kernelBody : Prog (TpuEff nD τ sig (Elt F) Λ₀ .tc) PUnit := cc0_body (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scoped0

set_option maxRecDepth 65536 in
/-- The body is the barrier, the lines of one device, and the exchange. -/
theorem body_eq : kernelBody (F := F) = (do
    let r ← k0_part1 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scoped0
    localProg r.1 r.2.1 r.2.2.2.2.2.2.1 r.2.2.2.2.2.2.2 r.2.2.2.2.2.1 (exchangeProg r.1 r.2.2.1 r.2.2.2.1 r.2.2.2.2.1)) := rfl

/-- The six staging buffers, the operands at `A` and the output at `o`. -/
def stagings (c : Dev nD) (A : Ops F) (o : S2x128x512.Idx → Elt F .f32) : sProp 𝕄 :=
  iprop(bufIs c cc0_stg0_0 A.x ∗ bufIs c cc0_stg1_0 A.wq ∗ bufIs c cc0_stg2_0 A.wo ∗ bufIs c cc0_stg3_0 A.k ∗ bufIs c cc0_stg4_0 A.v ∗ bufIs c cc0_stg5_0 o)

/-- The scratch buffers, holding anything. -/
def scratches (c : Dev nD) : sProp 𝕄 :=
  iprop((∃ f, bufIs c cc0_scratch0 f) ∗ (∃ f, bufIs c cc0_scratch1 f) ∗ each (fun s => iprop(∃ f, slotPts (F := F) s c f)))

/-- The first batch's row as it is loaded. -/
theorem x_read0 (X : S2x128x512.Idx → Elt F .bf16) :
    (Memref.whole cc0_stg0_0).view.readAt (Elt F) (Rect.unit (s := S2x128x512) ![0, 0, 0] S1x128x512.size inb_S2x128x512_S1x128x512_0_0_0).toLoadRect X
      = xRow X 0 := rfl

/-- What the body needs. -/
def bodyPre (A : Dev nD → Ops F) (K : GSem nD τ sig → ℕ) (c : Dev nD) (W : Waits sig Unit) : sProp 𝕄 :=
  iprop(opened (sent A) K c ∗ credits c ∗ levAts L lv ∗ owes (c : Thread nD τ) (O₀ c) W ∗ (∃ o, stagings c (A c) o) ∗ scratches c)

/-- What the body leaves. -/
def bodyPost (A : Dev nD → Ops F) (c : Dev nD) : sProp 𝕄 :=
  iprop(semVal (barCell c) 0 ∗ Pipeline.ownSems0 osem c ∗ (∃ W, owes (c : Thread nD τ) (0 : CellTallies nD τ sig Unit) W)
    ∗ stagings c (A c) (out3 A c) ∗ scratches c)

/-- The type of what the kernel's first lines compute: the device, its words, the first batch's projection. -/
abbrev Words (F : FTy → Type) [FloatOps F] : Type :=
  Σ' (d0 : Dev nD) (v2 : BitVec 32) (v6 : BitVec 32) (v10 : BitVec 32) (v12 : BitVec 32) (v24 : FVec F S128x512 .f32) (v25 : BitVec 32), BitVec 32

set_option maxHeartbeats 2000000 in
/-- The barrier, and the first batch's projection: from all that the device holds to what it holds when it computes its heads. -/
theorem start_run (A : Dev nD → Ops F) (K : GSem nD τ sig → ℕ) (c : Dev nD) (W : Waits sig Unit)
    (k : Words F → Prog (TpuEff nD τ sig (Elt F) Λ₀ .tc) PUnit) (Kt) (s0 s1 s2) (R : sProp (MT nD τ sig Unit (Elt F) ℕ UU ℕ))
    (h : ∀ (W' : Waits sig Unit) v2 v6 v10 v12 v25, iprop(records (sent A) K ∗ levAts L lv ∗ owes (c : Thread nD τ) (oweL (copies c)) W' ∗ atPos ER (barCell c) 1 ∅ 0
        ∗ (barPay 0 c ∗ barPay 1 c ∗ barPay 2 c) ∗ (bufIs c cc0_stg0_0 (A c).x ∗ bufIs c cc0_stg1_0 (A c).wq) ∗ R)
      ⊢ (wp frame (wpE (defs₀ (F := F)) 𝒱₀ c none) Set.univ (k ⟨c, v2, v6, v10, v12, qProj (A c) 0, v25, 0#32⟩) Kt : sProp 𝕄)) :
    iprop(records (sent A) K ∗ levAts L lv ∗ owes (c : Thread nD τ) (O₀ c) W ∗ atPos ER (barCell c) 0 ∅ 0 ∗ cred (tallyAt (barCell c) () 3)
        ∗ (dutyTok ER (barCell (pt 0 c)) 0 0 ∗ dutyTok ER (barCell (pt 1 c)) 0 1 ∗ dutyTok ER (barCell (pt 2 c)) 0 2)
        ∗ (reached ER (recvCell 0 c) 0 ∗ reached ER (recvCell 1 c) 0 ∗ reached ER (recvCell 2 c) 0 ∗ reached ER (exitCell c) 0)
        ∗ (slotPts 0 c s0 ∗ slotPts 1 c s1 ∗ slotPts 2 c s2) ∗ (bufIs c cc0_stg0_0 (A c).x ∗ bufIs c cc0_stg1_0 (A c).wq) ∗ R)
      ⊢ (wp frame (wpE (defs₀ (F := F)) 𝒱₀ c none) Set.univ (k0_part1 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scoped0 >>= k) Kt : sProp 𝕄) := by
  rw [k0_part1_eq_skeleton]
  unfold k0_part1_skel O₀
  iintro ⟨#HR, #Hlev, HO, HaB, HcB, ⟨HtB0, HtB1, HtB2⟩, ⟨#HrR0, #HrR1, #HrR2, #HrX⟩, ⟨Hs0, Hs1, Hs2⟩, ⟨H0, H1⟩, HRest⟩
  sl_exec
  iapply (bar_signal (sent A) 0 c K _ _ (dev1_eq c) s0) $$ [HO HtB0 Hs0]
  · iframe HR HtB0 Hs0 HrR0 HrX
    iexact HO
  iintro HO
  sl_exec
  iapply (bar_signal (sent A) 1 c K _ _ (dev2_eq c) s1) $$ [HO HtB1 Hs1]
  · iframe HR HtB1 Hs1 HrR1 HrX
    iexact HO
  iintro HO
  sl_exec
  iapply (bar_signal (sent A) 2 c K _ _ (dev3_eq c) s2) $$ [HO HtB2 Hs2]
  · iframe HR HtB2 Hs2 HrR2 HrX
    iexact HO
  iintro HO
  sl_exec
  iapply (bar_wait (sent A) c K _ _ (mayWait_after c _ 3 (by decide))) $$ [HO HcB HaB]
  · iframe HR Hlev HcB HaB
    iexact HO
  iintro ⟨⟨%W1, HO⟩, HaB, Hslots⟩
  sl_exec
  rw [wq_read, x_read0]
  iapply (h W1 _ _ _ _ _)
  iframe HR Hlev HO HaB Hslots H0 H1
  iexact HRest

/-- Every semaphore past its one round is closed at zero. -/
theorem close_all (sv : Fin 3 → Dev nD → S2x128x512.Idx → Elt F .bf16) (K : GSem nD τ sig → ℕ) (c : Dev nD) :
    iprop(records sv K ∗ atPos ER (barCell c) 1 ∅ 0 ∗ bigSep Finset.univ fun k => atPos ER ((c : Thread nD τ), osem k) 1 ∅ 0)
      ⊢ (|={Set.univ}=> iprop(semVal (barCell c) 0 ∗ Pipeline.ownSems0 osem c) : sProp 𝕄) := by
  unfold Pipeline.ownSems0
  iintro ⟨#HR, HaB, Hown⟩
  imod (close_one sv K (meet_mem c)) $$ [HaB] with Hb
  · isplitr; · iexact HR
    iexact HaB
  imod (show iprop(records sv K ∗ bigSep Finset.univ fun k => atPos ER ((c : Thread nD τ), osem k) 1 ∅ 0)
      ⊢ (|={Set.univ}=> bigSep Finset.univ fun k => semVal ((c : Thread nD τ), osem k) 0 : sProp 𝕄) from
    (bigSep_with_persistent (R := records sv K) fun k _ => close_one sv K (own_mem k c)).trans (bigSep_fupd _ _)) $$ [Hown] with Hk
  · isplitr; · iexact HR
    iexact Hown
  imodintro
  isplitl [Hb] <;> iassumption

/-- What waits beside the barrier for the later lines. -/
def later (A : Dev nD → Ops F) (c : Dev nD) (o : S2x128x512.Idx → Elt F .f32) (f0 : S128x512.Idx → Elt F .bf16) (Q : sProp 𝕄) : sProp 𝕄 :=
  iprop((bigSep Finset.univ fun k => iprop(atPos ER ((c : Thread nD τ), osem k) 0 ∅ 0 ∗ reached ER ((c : Thread nD τ), osem k) 0))
    ∗ (each (fun s => dutyTok ER (exitCell (pt s c)) 0 s) ∗ each (fun s => dutyTok ER (recvCell s (pt s c)) 0 0) ∗ each (fun s => dutyTok ER (sendCell s c) 0 0))
    ∗ (cred (tallyAt (exitCell c) () 3) ∗ each (fun s => cred (tallyAt (recvCell s c) () N)))
    ∗ (bufIs c cc0_stg2_0 (A c).wo ∗ bufIs c cc0_stg3_0 (A c).k ∗ bufIs c cc0_stg4_0 (A c).v ∗ bufIs c cc0_stg5_0 o ∗ bufIs c cc0_scratch0 f0)
    ∗ (∃ f, bufIs c cc0_scratch1 f) ∗ (bodyPost A c -∗ Q))

/-- From the barrier to the end. -/
theorem later_run (A : Dev nD → Ops F) (K : GSem nD τ sig → ℕ) (c : Dev nD) (o f0) (W : Waits sig Unit) (v2 v6 v10 v12 v25 : BitVec 32) (Kt) :
    iprop(records (sent A) K ∗ levAts L lv ∗ owes (c : Thread nD τ) (oweL (copies c)) W ∗ atPos ER (barCell c) 1 ∅ 0
        ∗ (barPay 0 c ∗ barPay 1 c ∗ barPay 2 c) ∗ (bufIs c cc0_stg0_0 (A c).x ∗ bufIs c cc0_stg1_0 (A c).wq) ∗ later A c o f0 (Kt ⟨⟩))
      ⊢ (wp frame (wpE (defs₀ (F := F)) 𝒱₀ c none) Set.univ (localProg c v2 v25 0#32 (qProj (A c) 0) (exchangeProg c v6 v10 v12)) Kt : sProp 𝕄) := by
  unfold later
  iintro ⟨#HR, #Hlev, HO, HaB, Hslots, ⟨H0, H1⟩, Hown, Htok, Hcr, ⟨H2, H3, H4, H5, H6⟩, H7, Hk⟩
  iapply (local_run c (A c) o f0 v2 v25 0#32 (exchangeProg c v6 v10 v12) Kt)
  isplitl [H0 H1 H2 H3 H4 H5 H6]
  · iframe H0 H1 H2 H3 H4 H5
    iexact H6
  iintro ⟨H0, H1, H2, H3, H4, H5, H6⟩
  iapply (wp_fupd frame (wpE (defs₀ (F := F)) 𝒱₀ c none) Set.univ _ Kt)
  iapply (exchange_run A K c W v6 v10 v12 _)
  unfold exchangePre exchangePost
  isplitl [HO Hown Htok Hcr Hslots H5 H7]
  · iframe HR Hlev HO Hown Htok Hcr
    unfold each
    iframe Hslots H5
    iexact H7
  iintro ⟨HO, Hown, Hslots, H5, H7⟩
  imod (close_all (sent A) K c) $$ [HaB Hown] with ⟨Hb, Hs⟩
  · iframe HR HaB
    iexact Hown
  imodintro
  iapply Hk
  unfold bodyPost stagings scratches
  iframe Hb Hs HO H0 H1 H2 H3 H4 H5 H6 H7
  iexact Hslots

/-- The body's run on one device. -/
theorem body_run (A : Dev nD → Ops F) (K : GSem nD τ sig → ℕ) (c : Dev nD) (W : Waits sig Unit) (Kt) :
    iprop(bodyPre A K c W ∗ (bodyPost A c -∗ Kt ⟨⟩))
      ⊢ (wp frame (wpE (defs₀ (F := F)) 𝒱₀ c none) Set.univ (kernelBody (F := F)) Kt : sProp 𝕄) := by
  rw [body_eq]
  unfold bodyPre opened credits tokens stagings scratches
  iintro ⟨⟨⟨#HR, HaB, Hown, ⟨HtB0, HtB1, HtB2⟩, Htok⟩, ⟨HcB, Hcr⟩, #Hlev, HO,
    ⟨%o, H0, H1, H2, H3, H4, H5⟩, ⟨%f0, H6⟩, H7, ⟨%s0, Hs0⟩, ⟨%s1, Hs1⟩, ⟨%s2, Hs2⟩⟩, Hk⟩
  ihave Hrch := (show (bigSep Finset.univ fun k => iprop(atPos ER ((c : Thread nD τ), osem k) 0 ∅ 0 ∗ reached ER ((c : Thread nD τ), osem k) 0))
      ⊢ (iprop((bigSep Finset.univ fun k => iprop(atPos ER ((c : Thread nD τ), osem k) 0 ∅ 0 ∗ reached ER ((c : Thread nD τ), osem k) 0))
        ∗ (reached ER (recvCell 0 c) 0 ∗ reached ER (recvCell 1 c) 0 ∗ reached ER (recvCell 2 c) 0 ∗ reached ER (exitCell c) 0)) : sProp 𝕄) from by
    rw [bigSep_seven]
    iintro ⟨HaS0, HaS1, HaS2, ⟨HaR0, #HrR0⟩, ⟨HaR1, #HrR1⟩, ⟨HaR2, #HrR2⟩, ⟨HaX, #HrX⟩⟩
    iframe HaS0 HaS1 HaS2 HaR0 HaR1 HaR2 HaX HrR0 HrR1 HrR2 HrX
    isplitr; · iexact HrR0
    isplitr; · iexact HrR1
    isplitr; · iexact HrR2
    iexact HrX) $$ Hown
  icases Hrch with ⟨Hown, Hrch⟩
  iapply (start_run A K c W (fun r => localProg r.1 r.2.1 r.2.2.2.2.2.2.1 r.2.2.2.2.2.2.2 r.2.2.2.2.2.1 (exchangeProg r.1 r.2.2.1 r.2.2.2.1 r.2.2.2.2.1))
    Kt s0 s1 s2 (later A c o f0 (Kt ⟨⟩)) (fun W' v2 v6 v10 v12 v25 => later_run A K c o f0 W' v2 v6 v10 v12 v25 Kt))
  unfold later
  iframe HR Hlev HO HaB HcB HtB0 HtB1 HtB2 Hrch Hs0 Hs1 Hs2 H0 H1 Hown Htok Hcr H2 H3 H4 H5 H6 H7
  iexact Hk

end Cert.KernelIdeal.Exch

end
-- ==== Proof.KernelIdeal.Slots.lean ====
/-
  The landing buffer as its three slots.
-/
module

public import proofs.«01_k».proof.Proof.KernelIdeal.Body

@[expose] public section

set_option maxRecDepth 16384

noncomputable section

namespace Cert.KernelIdeal.Exch

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The landing buffer and its three slots -/

theorem slot_mem (s : Fin 3) (i : S3x2x128x512.Idx) : i ∈ (slotR s).set ↔ (i 0 : ℕ) = s.val := by
  rw [Rect.mem_set_unit]
  have h1 : (i 1 : ℕ) < 2 := (i 1).isLt
  have h2 : (i 2 : ℕ) < 128 := (i 2).isLt
  have h3 : (i 3 : ℕ) < 512 := (i 3).isLt
  refine ⟨fun h => ?_, fun h a => ?_⟩
  · have h0 : s.val ≤ (i 0 : ℕ) ∧ (i 0 : ℕ) < s.val + 1 := h 0
    omega
  · match a with
    | ⟨0, _⟩ => show s.val ≤ (i 0 : ℕ) ∧ (i 0 : ℕ) < s.val + 1; omega
    | ⟨1, _⟩ => show 0 ≤ (i 1 : ℕ) ∧ (i 1 : ℕ) < 0 + 2; omega
    | ⟨2, _⟩ => show 0 ≤ (i 2 : ℕ) ∧ (i 2 : ℕ) < 0 + 128; omega
    | ⟨3, _⟩ => show 0 ≤ (i 3 : ℕ) ∧ (i 3 : ℕ) < 0 + 512; omega

theorem slots_cover : (Finset.univ : Finset (Fin 3)).biUnion (fun s => (slotR s).set) = Finset.univ := by
  ext i
  simp only [Finset.mem_biUnion, Finset.mem_univ, true_and, iff_true]
  exact ⟨i 0, (slot_mem _ i).mpr rfl⟩

theorem slots_apart : ∀ s ∈ (Finset.univ : Finset (Fin 3)), ∀ s' ∈ (Finset.univ : Finset (Fin 3)), s ≠ s' →
    Disjoint (slotR s).set (slotR s').set := fun s _ s' _ hne =>
  Finset.disjoint_left.mpr fun i h h' => hne (Fin.ext (((slot_mem s i).mp h).symm.trans ((slot_mem s' i).mp h')))

theorem slotPts_eq (s : Fin 3) (c : Dev nD) (f : Buf (Elt F) ((c : Thread nD τ).loc cc0_scratch2)) :
    (slotPts s c f : sProp 𝕄) = (((c : Thread nD τ).loc cc0_scratch2) ↦[(slotR s).set]{fullShare} f) := by
  unfold slotPts; rw [slot_set]

theorem slots_union (c : Dev nD) (f : Buf (Elt F) ((c : Thread nD τ).loc cc0_scratch2)) :
    ((((c : Thread nD τ).loc cc0_scratch2) ↦{fullShare} f) : sProp 𝕄)
      = bigSep Finset.univ fun s : Fin 3 => (((c : Thread nD τ).loc cc0_scratch2) ↦[(slotR s).set]{fullShare} f) := by
  rw [← pointsTo_biUnion (ℓ := (c : Thread nD τ).loc cc0_scratch2) (q := fullShare) (f := f) Finset.univ (fun s => (slotR s).set) slots_apart, slots_cover]

/-- The landing buffer is its three slots. -/
theorem slots_split (c : Dev nD) (f : Buf (Elt F) ((c : Thread nD τ).loc cc0_scratch2)) :
    ((((c : Thread nD τ).loc cc0_scratch2) ↦{fullShare} f) : sProp 𝕄) ⊢ each (fun s => iprop(∃ f, slotPts (F := F) s c f)) := by
  rw [slots_union, bigSep_three, ← slotPts_eq, ← slotPts_eq, ← slotPts_eq]
  iintro ⟨H0, H1, H2⟩
  isplitl [H0]; · iexists f; iexact H0
  isplitl [H1]; · iexists f; iexact H1
  iexists f; iexact H2

/-- The three slots are the landing buffer, whatever each holds. -/
theorem slots_join (c : Dev nD) :
    each (fun s => iprop(∃ f, slotPts (F := F) s c f)) ⊢ (iprop(∃ f : Buf (Elt F) ((c : Thread nD τ).loc cc0_scratch2), ((c : Thread nD τ).loc cc0_scratch2) ↦{fullShare} f) : sProp 𝕄) := by
  iintro ⟨⟨%f0, H0⟩, ⟨%f1, H1⟩, ⟨%f2, H2⟩⟩
  have h := pointsTo_biUnion_join (Ix := Unit) (Val := Elt F) (Name := ℕ) (U := UU) (Lvl := ℕ) (ℓ := (c : Thread nD τ).loc cc0_scratch2) (q := fullShare)
    Finset.univ (fun s : Fin 3 => (slotR s).set) (fun s => match s with | 0 => f0 | 1 => f1 | 2 => f2) f0 slots_apart
  rw [bigSep_three, slots_cover] at h
  ihave H := h $$ [H0 H1 H2]
  · isplitl [H0]; · ihave H := (Entails.of_eq (slotPts_eq 0 c f0)) $$ H0; iexact H
    isplitl [H1]; · ihave H := (Entails.of_eq (slotPts_eq 1 c f1)) $$ H1; iexact H
    ihave H := (Entails.of_eq (slotPts_eq 2 c f2)) $$ H2; iexact H
  icases H with ⟨%g, -, H⟩
  iexists g; iexact H

end Cert.KernelIdeal.Exch

end
-- ==== Proof.KernelIdeal.Region.lean ====
/-
  The kernel's region: its data, and that the body keeps to it.
-/
module

public import proofs.«01_k».proof.Proof.KernelIdeal.Slots
public import proofs.«01_k».proof.Proof.Gen.KernelIdeal.Frame
public import Idealize.ShloMosaic.Lib.Pipeline.RegionTalk

@[expose] public section

set_option maxRecDepth 16384

noncomputable section

namespace Cert.KernelIdeal.Exch

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ)

/-! ## The region's data -/

/-- What the kernel finds in device `c`'s operands. -/
def opsAt (c : Dev nD) : Ops F :=
  ⟨iblk m c 0 t0_0, iblk m c 1 t0_0, iblk m c 2 t0_0, iblk m c 3 t0_0, iblk m c 4 t0_0⟩

/-- Before the body: its ghost state, its credit and the levels. -/
def Xk (c : Dev nD) : sProp 𝕄 := iprop((∃ K, opened (sent (opsAt m)) K c) ∗ credits c ∗ levAts L lv)
/-- From the launch to the region. -/
def Tk (c : Dev nD) : sProp 𝕄 := iprop((∃ K, ghost (sent (opsAt m)) K c) ∗ credits c)
/-- After the body: the barrier at zero. -/
def Yk (c : Dev nD) : sProp 𝕄 := semVal (barCell c) 0

/-- The scratch buffers, holding anything. -/
abbrev scratchRest (c : Dev nD) : sProp 𝕄 :=
  iprop((∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ (∃ f : Buf (Elt F) ((c : Thread nD τ).loc cc0_scratch2), ((c : Thread nD τ).loc cc0_scratch2) ↦{fullShare} f))

/-- The region's one point: operands in, the exchanged sum out. -/
def dat (c : Dev nD) : Dat τ (Elt F) Unit ℕ UU ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => out3 (opsAt m) c
  Φ t := if t.val = 0 then iprop(Xk m c ∗ scratchRest c ∗ ∃ r, prngReg c r)
    else iprop(Yk c ∗ Pipeline.ownSems0 osem c ∗ scratchRest c ∗ ∃ r, prngReg c r)
  q _ := fullShare
  owed t := if t.val = 0 then O₀ c else 0

abbrev adm : (p : Fin 1) → (pcfgs (F := F) p).Adm := fun p => (cfgs p).toPCfg_adm
def pdats : (p : Fin 1) → (c : Dev nD) → Dat τ (Elt F) Unit ℕ UU ℕ (Pipeline.pin (pcfgs (F := F)) adm p) c
  | 0 => dat m

theorem phi_first (c : Dev nD) : (dat m c).Φ t0_0.castSucc = iprop(Xk m c ∗ scratchRest c ∗ ∃ r, prngReg c r) := rfl
theorem phi_last (c : Dev nD) : (dat m c).Φ t0_0.succ = iprop(Yk c ∗ Pipeline.ownSems0 osem c ∗ scratchRest c ∗ ∃ r, prngReg c r) := rfl

theorem owesAt_first (c : Dev nD) : ((dat m c).owesAt () t0_0.castSucc : sProp 𝕄) ⊢ iprop(∃ W, owes (c : Thread nD τ) (O₀ c) W) := by
  unfold Dat.owesAt Pipeline.owesWithin
  rw [show (dat m c).owed t0_0.castSucc = O₀ c from rfl]
  iintro ⟨%W, -, HO⟩; iexists W; iexact HO
theorem owesAt_last (c : Dev nD) (W : Waits sig Unit) :
    (owes (c : Thread nD τ) (0 : CellTallies nD τ sig Unit) W : sProp 𝕄) ⊢ ((dat m c).owesAt () t0_0.succ : sProp 𝕄) := by
  unfold Dat.owesAt Pipeline.owesWithin Dat.bound
  rw [show (dat m c).owed t0_0.succ = 0 from rfl]
  iintro HO; iexists W; isplitr; · ipureintro; exact fun _ _ => Or.inl trivial
  iexact HO

/-! ## The body's obligation -/

theorem scratches_eq (c : Dev nD) : (scratchRest (F := F) c : sProp 𝕄) ⊣⊢ scratches c := by
  unfold scratches
  constructor
  · iintro ⟨H0, H1, ⟨%f, H2⟩⟩
    isplitl [H0]; · iexact H0
    isplitl [H1]; · iexact H1
    iapply (slots_split c f); iexact H2
  · iintro ⟨H0, H1, H2⟩
    isplitl [H0]; · iexact H0
    isplitl [H1]; · iexact H1
    iapply (slots_join c); iexact H2

theorem body_point : defs₀ (F := F) .tc cfg0.body (cfg0.bodyArgs t0_0 (cfg0.slots t0_0)) = kernelBody (F := F) := rfl

/-- A whole buffer that holds `g d` for some `d`, where every `g d` is `f`, holds `f`. -/
theorem found (c : Dev nD) (b : Ref sig .tc) {ι : Type} (g : ι → b.ty.Contents (Elt F)) (f : b.ty.Contents (Elt F)) (h : ∀ d, g d = f) :
    (iprop(∃ d, owns (Ix := Unit) (Name := ℕ) (U := UU) (Lvl := ℕ) (c : Thread nD τ) (Memref.whole b) fullShare (g d)) : sProp 𝕄) ⊢ bufIs c b f := by
  iintro ⟨%d, H⟩
  rw [h d]
  iapply (Entails.of_eq (owns_whole (c : Thread nD τ) b fullShare f)); iexact H

theorem after_0 (c : Dev nD) : (owns (Ix := Unit) (Name := ℕ) (U := UU) (Lvl := ℕ) (c : Thread nD τ) ((cfg0.win 0).stage (cfg0.slots t0_0 0)) fullShare ((dat m c).after 0 t0_0) : sProp 𝕄)
    = bufIs c cc0_stg0_0 (iblk m c 0 t0_0) := owns_whole (c : Thread nD τ) cc0_stg0_0 fullShare (iblk m c 0 t0_0)
theorem after_1 (c : Dev nD) : (owns (Ix := Unit) (Name := ℕ) (U := UU) (Lvl := ℕ) (c : Thread nD τ) ((cfg0.win 1).stage (cfg0.slots t0_0 1)) fullShare ((dat m c).after 1 t0_0) : sProp 𝕄)
    = bufIs c cc0_stg1_0 (iblk m c 1 t0_0) := owns_whole (c : Thread nD τ) cc0_stg1_0 fullShare (iblk m c 1 t0_0)
theorem after_2 (c : Dev nD) : (owns (Ix := Unit) (Name := ℕ) (U := UU) (Lvl := ℕ) (c : Thread nD τ) ((cfg0.win 2).stage (cfg0.slots t0_0 2)) fullShare ((dat m c).after 2 t0_0) : sProp 𝕄)
    = bufIs c cc0_stg2_0 (iblk m c 2 t0_0) := owns_whole (c : Thread nD τ) cc0_stg2_0 fullShare (iblk m c 2 t0_0)
theorem after_3 (c : Dev nD) : (owns (Ix := Unit) (Name := ℕ) (U := UU) (Lvl := ℕ) (c : Thread nD τ) ((cfg0.win 3).stage (cfg0.slots t0_0 3)) fullShare ((dat m c).after 3 t0_0) : sProp 𝕄)
    = bufIs c cc0_stg3_0 (iblk m c 3 t0_0) := owns_whole (c : Thread nD τ) cc0_stg3_0 fullShare (iblk m c 3 t0_0)
theorem after_4 (c : Dev nD) : (owns (Ix := Unit) (Name := ℕ) (U := UU) (Lvl := ℕ) (c : Thread nD τ) ((cfg0.win 4).stage (cfg0.slots t0_0 4)) fullShare ((dat m c).after 4 t0_0) : sProp 𝕄)
    = bufIs c cc0_stg4_0 (iblk m c 4 t0_0) := owns_whole (c : Thread nD τ) cc0_stg4_0 fullShare (iblk m c 4 t0_0)
theorem after_5 (c : Dev nD) : (owns (Ix := Unit) (Name := ℕ) (U := UU) (Lvl := ℕ) (c : Thread nD τ) ((cfg0.win 5).stage (cfg0.slots t0_0 5)) fullShare ((dat m c).after 5 t0_0) : sProp 𝕄)
    = bufIs c cc0_stg5_0 (out3 (opsAt m) c) := owns_whole (c : Thread nD τ) cc0_stg5_0 fullShare (out3 (opsAt m) c)
theorem found_0 (c : Dev nD) : (iprop(∃ d, owns (Ix := Unit) (Name := ℕ) (U := UU) (Lvl := ℕ) (c : Thread nD τ) ((cfg0.win 0).stage (cfg0.slots t0_0 0)) fullShare ((dat m c).before 0 t0_0 d)) : sProp 𝕄)
    ⊢ bufIs c cc0_stg0_0 (iblk m c 0 t0_0) :=
  found c cc0_stg0_0 _ _ ((dat m c).before_in_eq_fetched 0 rfl (fun _ => rfl) (fun _ _ _ => rfl) (fun _ => rfl) t0_0)
theorem found_1 (c : Dev nD) : (iprop(∃ d, owns (Ix := Unit) (Name := ℕ) (U := UU) (Lvl := ℕ) (c : Thread nD τ) ((cfg0.win 1).stage (cfg0.slots t0_0 1)) fullShare ((dat m c).before 1 t0_0 d)) : sProp 𝕄)
    ⊢ bufIs c cc0_stg1_0 (iblk m c 1 t0_0) :=
  found c cc0_stg1_0 _ _ ((dat m c).before_in_eq_fetched 1 rfl (fun _ => rfl) (fun _ _ _ => rfl) (fun _ => rfl) t0_0)
theorem found_2 (c : Dev nD) : (iprop(∃ d, owns (Ix := Unit) (Name := ℕ) (U := UU) (Lvl := ℕ) (c : Thread nD τ) ((cfg0.win 2).stage (cfg0.slots t0_0 2)) fullShare ((dat m c).before 2 t0_0 d)) : sProp 𝕄)
    ⊢ bufIs c cc0_stg2_0 (iblk m c 2 t0_0) :=
  found c cc0_stg2_0 _ _ ((dat m c).before_in_eq_fetched 2 rfl (fun _ => rfl) (fun _ _ _ => rfl) (fun _ => rfl) t0_0)
theorem found_3 (c : Dev nD) : (iprop(∃ d, owns (Ix := Unit) (Name := ℕ) (U := UU) (Lvl := ℕ) (c : Thread nD τ) ((cfg0.win 3).stage (cfg0.slots t0_0 3)) fullShare ((dat m c).before 3 t0_0 d)) : sProp 𝕄)
    ⊢ bufIs c cc0_stg3_0 (iblk m c 3 t0_0) :=
  found c cc0_stg3_0 _ _ ((dat m c).before_in_eq_fetched 3 rfl (fun _ => rfl) (fun _ _ _ => rfl) (fun _ => rfl) t0_0)
theorem found_4 (c : Dev nD) : (iprop(∃ d, owns (Ix := Unit) (Name := ℕ) (U := UU) (Lvl := ℕ) (c : Thread nD τ) ((cfg0.win 4).stage (cfg0.slots t0_0 4)) fullShare ((dat m c).before 4 t0_0 d)) : sProp 𝕄)
    ⊢ bufIs c cc0_stg4_0 (iblk m c 4 t0_0) :=
  found c cc0_stg4_0 _ _ ((dat m c).before_in_eq_fetched 4 rfl (fun _ => rfl) (fun _ _ _ => rfl) (fun _ => rfl) t0_0)
theorem found_5 (c : Dev nD) : (iprop(∃ d, owns (Ix := Unit) (Name := ℕ) (U := UU) (Lvl := ℕ) (c : Thread nD τ) ((cfg0.win 5).stage (cfg0.slots t0_0 5)) fullShare ((dat m c).before 5 t0_0 d)) : sProp 𝕄)
    ⊢ iprop(∃ o, bufIs c cc0_stg5_0 o) := by
  iintro ⟨%d, H⟩
  iexists ((dat m c).before 5 t0_0 d)
  iapply (Entails.of_eq (owns_whole (c : Thread nD τ) cc0_stg5_0 fullShare ((dat m c).before 5 t0_0 d))); iexact H

theorem body_obligation (c : Dev nD) : BodyObligation (dat m c) (defs₀ (F := F)) 𝒱₀ () Set.univ := fun t => by
  obtain rfl := fin_N0 t
  rw [bigSep_W0, bigSep_W0, phi_first, phi_last, body_point]
  unfold Xk Yk
  iintro ⟨⟨⟨⟨%K, Hg⟩, Hcr, #Hlev⟩, Hs, Hp⟩, HO, H0, H1, H2, H3, H4, H5⟩
  ihave HO := (owesAt_first m c) $$ HO
  icases HO with ⟨%W, HO⟩
  ihave H0 := (found_0 m c) $$ H0
  ihave H1 := (found_1 m c) $$ H1
  ihave H2 := (found_2 m c) $$ H2
  ihave H3 := (found_3 m c) $$ H3
  ihave H4 := (found_4 m c) $$ H4
  ihave H5 := (found_5 m c) $$ H5
  icases H5 with ⟨%o, H5⟩
  ihave Hs := (scratches_eq c).1 $$ Hs
  iapply (body_run (opsAt m) K c W _)
  isplitr [Hp]
  · unfold bodyPre
    isplitl [Hg]; · iexact Hg
    isplitl [Hcr]; · iexact Hcr
    isplitr; · iexact Hlev
    isplitl [HO]; · iexact HO
    isplitr [Hs]
    · iexists o
      unfold stagings
      isplitl [H0]; · iexact H0
      isplitl [H1]; · iexact H1
      isplitl [H2]; · iexact H2
      isplitl [H3]; · iexact H3
      isplitl [H4]; · iexact H4
      iexact H5
    iexact Hs
  unfold bodyPost stagings
  iintro ⟨Hb, Hos, ⟨%W', HO⟩, ⟨H0, H1, H2, H3, H4, H5⟩, Hs⟩
  ihave Hs := (scratches_eq c).2 $$ Hs
  isplitl [Hb Hos Hs Hp]
  · isplitl [Hb]; · iexact Hb
    isplitl [Hos]; · iexact Hos
    isplitl [Hs]; · iexact Hs
    iexact Hp
  isplitl [HO]; · iapply (owesAt_last m c W'); iexact HO
  isplitl [H0]; · iapply (Entails.of_eq (after_0 m c).symm); iexact H0
  isplitl [H1]; · iapply (Entails.of_eq (after_1 m c).symm); iexact H1
  isplitl [H2]; · iapply (Entails.of_eq (after_2 m c).symm); iexact H2
  isplitl [H3]; · iapply (Entails.of_eq (after_3 m c).symm); iexact H3
  isplitl [H4]; · iapply (Entails.of_eq (after_4 m c).symm); iexact H4
  iapply (Entails.of_eq (after_5 m c).symm); iexact H5

end Cert.KernelIdeal.Exch

end
-- ==== Proof.KernelIdeal.Segments.lean ====
/-
  The program as the two transposes and the kernel's region.
-/
module

public import proofs.«01_k».proof.Proof.KernelIdeal.Region

@[expose] public section

set_option maxRecDepth 16384

noncomputable section

namespace Cert.KernelIdeal.Exch

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ)

/-! ## The buffers around the region -/

/-- A device's buffers at launch. -/
abbrev V₀ (c : Dev nD) : Valuation τ sig (Elt F) := fun b => m (c, b)
/-- Its buffers when the kernel starts: the two transposes done. -/
abbrev V₁ (c : Dev nD) : Valuation τ sig (Elt F) := StableHlo.after hostOps0 (V₀ m c)
/-- Its buffers when the kernel is done: the result written. -/
def V₂ (c : Dev nD) : Valuation τ sig (Elt F) := Function.update (V₁ m c) (Proc.devRef .tc main_v3) ((dat m c).arrAt 5 cfg0.N)

theorem V₂_ne (c : Dev nD) {b : Ref sig .tc} (h : b ≠ main_v3) : V₂ m c b = V₁ m c b :=
  Function.update_of_ne (StableHlo.devRef_ne_of_ne h) _ _
theorem V₂_result (c : Dev nD) : V₂ m c main_v3 = (dat m c).arrAt 5 cfg0.N := Function.update_self ..

/-- The buffers that are no operand and no result of the kernel. -/
abbrev asideRefs : Finset (DevRef τ sig) := Pipeline.ucRefs τ sig \ Pipeline.arrRefs (τ := τ) spec0

theorem arr_sub : Pipeline.arrRefs (τ := τ) spec0 ⊆ Pipeline.ucRefs τ sig := by decide
theorem aside_ne : ∀ b ∈ asideRefs, b ≠ Proc.devRef .tc main_v3 := by decide

theorem aside_same (c : Dev nD) : ∀ b ∈ asideRefs \ (∅ : Finset (DevRef τ sig)), V₂ m c b = V₁ m c b := fun b hb =>
  Function.update_of_ne (aside_ne b (Finset.mem_sdiff.mp hb).1) _ _

theorem arr_before (c : Dev nD) (w : Fin cfg0.W) : (dat m c).arrAt w 0 = V₁ m c (Proc.devRef .tc (Pipeline.arrRef spec0 w)) := rfl

theorem arr_after (c : Dev nD) : ∀ w : Fin cfg0.W, (dat m c).arrAt w cfg0.N = V₂ m c (Proc.devRef .tc (Pipeline.arrRef spec0 w))
  | 0 => ((dat m c).arrAt_in 0 rfl _).trans (V₂_ne m c (b := main_arg0) (by decide)).symm
  | 1 => ((dat m c).arrAt_in 1 rfl _).trans (V₂_ne m c (b := main_arg1) (by decide)).symm
  | 2 => ((dat m c).arrAt_in 2 rfl _).trans (V₂_ne m c (b := main_arg4) (by decide)).symm
  | 3 => ((dat m c).arrAt_in 3 rfl _).trans (V₂_ne m c (b := main_v1) (by decide)).symm
  | 4 => ((dat m c).arrAt_in 4 rfl _).trans (V₂_ne m c (b := main_v2) (by decide)).symm
  | 5 => (V₂_result m c).symm
  | ⟨_ + 6, h⟩ => absurd h (Nat.not_lt.2 (Nat.le_add_left _ _))

/-! ## The region -/

theorem held_none (c : Dev nD) (W : Valuation τ sig (Elt F)) : (StableHlo.held (c.tc : Thread nD τ) ∅ W : sProp 𝕄) = BI.emp := by
  unfold StableHlo.held; exact BI.bigSep_empty

theorem region_open (c : Dev nD) : iprop(Tk m c ∗ Pipeline.ownSems0 osem c ∗ levAts L lv) ⊢ (|={Set.univ}=> Xk m c : sProp 𝕄) := by
  unfold Tk Xk
  iintro ⟨⟨⟨%K, Hg⟩, Hcr⟩, Hs, #Hlev⟩
  imod (open_all (sent (opsAt m)) K c) $$ [Hg Hs] with Ho
  · isplitl [Hg] <;> iassumption
  imodintro
  isplitl [Ho]; · iexists K; iexact Ho
  isplitl [Hcr]; · iexact Hcr
  iexact Hlev

theorem rest_eq (c : Dev nD) : (Pipeline.scopedRest (Pipeline.pin (pcfgs (F := F)) adm 0).spec c : sProp 𝕄) = scratchRest c := scopedRest0_eq c

/-- The whole of every operand is held. -/
theorem share_full (c : Dev nD) (w : Fin cfg0.W) : (dat m c).share w = fullShare := by
  unfold Dat.share; split <;> rfl

theorem region_in (c : Dev nD) :
    iprop(Pipeline.scopedRest (Pipeline.pin (pcfgs (F := F)) adm 0).spec c ∗ (∃ r, prngReg c r) ∗ StableHlo.held (c.tc : Thread nD τ) ∅ (V₁ m c) ∗ Xk m c)
      ⊢ (pdats m 0 c).Φ 0 := by
  rw [show (pdats m 0 c).Φ 0 = iprop(Xk m c ∗ scratchRest c ∗ ∃ r, prngReg c r) from rfl, rest_eq]
  iintro ⟨Hs, Hp, -, HX⟩
  isplitl [HX]; · iexact HX
  isplitl [Hs]; · iexact Hs
  iexact Hp

theorem region_out (c : Dev nD) : (pdats m 0 c).Φ (Fin.last (Pipeline.pin (pcfgs (F := F)) adm 0).N)
    ⊢ iprop(Pipeline.scopedRest (Pipeline.pin (pcfgs (F := F)) adm 0).spec c ∗ (∃ r, prngReg c r) ∗ StableHlo.held (c.tc : Thread nD τ) ∅ (V₂ m c)
        ∗ Pipeline.ownSems0 osem c ∗ Yk c) := by
  rw [show (pdats m 0 c).Φ (Fin.last _) = iprop(Yk c ∗ Pipeline.ownSems0 osem c ∗ scratchRest c ∗ ∃ r, prngReg c r) from rfl, rest_eq, held_none]
  iintro ⟨HY, Hos, Hs, Hp⟩
  isplitl [Hs]; · iexact Hs
  isplitl [Hp]; · iexact Hp
  isplitr; · iempintro
  isplitl [Hos] <;> iassumption

theorem owed_cut (c : Dev nD) (t : Fin ((Pipeline.pin (pcfgs (F := F)) adm 0).N + 1)) (g : GSem nD τ sig) (i : Unit)
    (h : 0 < (pdats (F := F) m 0 c).owed t g i) : i ∈ L g ∧ (0 : ℕ) < lv g i := by
  have e : (pdats (F := F) m 0 c).owed t = if t.val = 0 then O₀ c else 0 := rfl
  rw [e] at h
  split at h
  · exact O₀_above h
  · exact absurd h (Nat.lt_irrefl 0)

theorem stage_level : ∀ (w : Fin cfg0.W) (s : Fin (cfg0.win w).nbuf), lvS (.dma ((cfg0.win w).sem s)) ≤ 0 := by decide

theorem own_sems : Pipeline.OwnSemFacts spec0 osem := by decide

set_option backward.isDefEq.respectTransparency.types false in
/-- The kernel's region: from the launch's ghost state to the barrier at zero, the result written. -/
def reg : Pipeline.RegionSeg (pcfgs (F := F)) adm (pdats m) () defs₀ 𝒱₀ L lv 0 :=
  Pipeline.RegionSeg.ofTalk (pcfgs (F := F)) adm (pdats m) () defs₀ 𝒱₀ L lv 0 osem own_sems
    ∅ asideRefs (Finset.empty_subset _) launch0.toP rfl (fun c => (body_obligation m c).loose)
    (fun _ => 0) O₀ (fun c => (zero_add _).symm) (fun _ => rfl) (fun _ => rfl) (share_full m)
    (V₁ m) (V₂ m) (aside_same m) (Tk m) Yk (Xk m) Yk (region_open m) (region_in m) (region_out m)
    (fun c => by iintro H; imodintro; iexact H)
    (fun _ => 0)
    ⟨fun c _ _ => by rw [L_tc]; exact Finset.mem_singleton_self _, fun _ w s => stage_level w s, fun c t g i h => owed_cut m c t g i h⟩
    (fun _ => iprop(emp)) (arr_before m) (arr_after m)

/-- What is carried beside the buffers through the transposes. -/
abbrev carried (c : Dev nD) : sProp 𝕄 := iprop(Tk m c ∗ (∃ r, prngReg c r) ∗ ∃ W, owes (c : Thread nD τ) (O₀ c) W)

/-- The two transposes before the kernel. -/
def hostSeg : Pipeline.HostSeg (Ix := Unit) (Name := ℕ) (U := UU) (Lvl := ℕ) (pcfgs (F := F)) defs₀ 𝒱₀ L lv :=
  Pipeline.HostSeg.ofOps _ _ _ _ _ (Pipeline.ucRefs τ sig) hostOps0
    (fun op h => Pipeline.sub_ucRefs op ((List.forall_iff_forall_mem.mp hostOps0_sub) op h)) (List.forall_iff_forall_mem.mp hostOps0_fresh) (V₀ m) (carried m)

theorem reg_pre (c : Dev nD) : iprop(StableHlo.held (c.tc : Thread nD τ) (Pipeline.ucRefs τ sig) (V₁ m c) ∗ carried m c) ⊢ (reg m).pre c := by
  show _ ⊢ iprop(StableHlo.held (c.tc : Thread nD τ) (Pipeline.arrRefs (τ := τ) spec0) (V₁ m c) ∗ (∃ r, prngReg c r)
    ∗ (StableHlo.held (c.tc : Thread nD τ) asideRefs (V₁ m c) ∗ emp) ∗ Tk m c ∗ ∃ Wd, owes (c : Thread nD τ) (0 + O₀ c) Wd)
  rw [StableHlo.held_sub_split (c.tc : Thread nD τ) arr_sub (V₁ m c), zero_add]
  iintro ⟨⟨Ha, Hr⟩, HT, Hp, HO⟩
  isplitl [Ha]; · iexact Ha
  isplitl [Hp]; · iexact Hp
  isplitl [Hr]
  · isplitl [Hr]; · iexact Hr
    iempintro
  isplitl [HT]; · iexact HT
  iexact HO

theorem reg_post (c : Dev nD) : (reg m).post c
    ⊢ iprop((StableHlo.held (c.tc : Thread nD τ) (Pipeline.ucRefs τ sig) (V₂ m c) ∗ semVal (barCell c) 0)
        ∗ ∃ W, owes (c : Thread nD τ) (0 : CellTallies nD τ sig Unit) W) := by
  show iprop(StableHlo.held (c.tc : Thread nD τ) (Pipeline.arrRefs (τ := τ) spec0) (V₂ m c) ∗ (∃ r, prngReg c r)
    ∗ (StableHlo.held (c.tc : Thread nD τ) asideRefs (V₂ m c) ∗ emp) ∗ Yk c ∗ ∃ Wd, owes (c : Thread nD τ) (0 : CellTallies nD τ sig Unit) Wd) ⊢ _
  rw [StableHlo.held_sub_split (c.tc : Thread nD τ) arr_sub (V₂ m c)]
  unfold Yk
  iintro ⟨Ha, -, ⟨Hr, -⟩, Hb, HO⟩
  isplitr [HO]
  · isplitr [Hb]
    · isplitl [Ha] <;> iassumption
    iexact Hb
  iexact HO

end Cert.KernelIdeal.Exch

end
-- ==== Proof.KernelIdeal.Dealing.lean ====
/-
  What the launch deals to the devices: the tokens of the duties each pays, the credit for what each waits for.
-/
module

public import proofs.«01_k».proof.Proof.KernelIdeal.Protocol

@[expose] public section

set_option maxRecDepth 16384

noncomputable section

namespace Cert.KernelIdeal.Exch

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

open Idealize.ShloMosaic.Pipeline (Dat BodyObligation)

variable {F : FTy → Type} [FloatOps F]

local notation "𝕄" => MT nD τ sig Unit (Elt F) ℕ UU ℕ

/-! ## The tokens of all duties, and how they are dealt -/

/-- The semaphore of a duty: the barrier, the exit, a copy's receiver, a copy's sender; a duty for each step. -/
def tokSem : Fin 4 × Fin 3 → SemLoc sig
  | (0, _) => .reg barrier0
  | (1, _) => .reg exitS
  | (2, s) => .dma (recvS s)
  | (3, s) => .dma (sendS s)
/-- Its number on that semaphore. -/
def tokDuty : Fin 4 × Fin 3 → Fin 3
  | (0, s) => s
  | (1, s) => s
  | (2, _) => 0
  | (3, _) => 0

theorem tok_inj : Function.Injective fun p => (tokSem p, tokDuty p) := by decide

/-- The tokens of all duties on all devices. -/
def allToks : Finset (GSem nD τ sig × ℕ × Fin 3) :=
  Finset.univ.map ⟨fun p : Dev nD × Fin 4 × Fin 3 => (((p.1 : Thread nD τ), tokSem p.2), 0, tokDuty p.2), fun p q h =>
    Prod.ext (congrArg (fun t : GSem nD τ sig × ℕ × Fin 3 => t.1.1.1) h)
      (tok_inj (Prod.ext (congrArg (fun t : GSem nD τ sig × ℕ × Fin 3 => t.1.2) h) (congrArg (fun t : GSem nD τ sig × ℕ × Fin 3 => t.2.2) h)))⟩

theorem bigSep_four {M : Type} [URA M] (Φ : Fin 4 → sProp M) :
    bigSep Finset.univ Φ = iprop(Φ 0 ∗ Φ 1 ∗ Φ 2 ∗ Φ 3) :=
  bigSep_univ_eq_bigSepL [(0 : Fin 4), 1, 2, 3] (by decide) (by decide) Φ

/-- The tokens by the device on which the duty is. -/
theorem toks_by_device : bigSep allToks (fun x => (dutyTok ER x.1 x.2.1 x.2.2 : sProp 𝕄))
    = bigSep Finset.univ fun c : Dev nD => iprop(each (fun s => dutyTok ER (barCell c) 0 s) ∗ each (fun s => dutyTok ER (exitCell c) 0 s)
      ∗ each (fun s => dutyTok ER (recvCell s c) 0 0) ∗ each (fun s => dutyTok ER (sendCell s c) 0 0)) := by
  unfold allToks
  rw [bigSep_map, bigSep_univ_prod]
  refine bigSep_congr fun c _ => ?_
  rw [bigSep_univ_prod, bigSep_four, bigSep_three, bigSep_three, bigSep_three, bigSep_three]
  rfl

/-- One of each step on every device is one of each step on every device's partner in that step. -/
theorem around (Φ : Fin 3 → Dev nD → sProp 𝕄) :
    (bigSep Finset.univ fun c : Dev nD => each fun s => Φ s c) = bigSep Finset.univ fun c : Dev nD => each fun s => Φ s (pt s c) := by
  unfold each
  rw [bigSep_sep', bigSep_sep', bigSep_sep', bigSep_sep', bigSep_univ_equiv (ptEquiv 0) (Φ 0), bigSep_univ_equiv (ptEquiv 1) (Φ 1),
    bigSep_univ_equiv (ptEquiv 2) (Φ 2)]
  rfl

theorem apart (P Q R S : Dev nD → sProp 𝕄) :
    (bigSep Finset.univ fun c => iprop(P c ∗ Q c ∗ R c ∗ S c))
      = iprop(bigSep Finset.univ P ∗ bigSep Finset.univ Q ∗ bigSep Finset.univ R ∗ bigSep Finset.univ S) := by
  rw [bigSep_sep', bigSep_sep', bigSep_sep']

/-- The tokens by the device that pays. -/
theorem toks_by_payer : bigSep allToks (fun x => (dutyTok ER x.1 x.2.1 x.2.2 : sProp 𝕄)) = bigSep Finset.univ fun c : Dev nD => tokens (F := F) c := by
  rw [toks_by_device]
  unfold tokens
  rw [apart (fun c => each fun s => dutyTok ER (barCell c) 0 s), around fun s c => dutyTok ER (barCell c) 0 s,
    around fun s c => dutyTok ER (exitCell c) 0 s, around fun s c => dutyTok ER (recvCell s c) 0 0, ← apart]

/-! ## The credit that comes with what the others owe -/

theorem sum_partner (s : Fin 3) (c : Dev nD) (sm sm' : SemLoc sig) (n : ℕ) :
    (∑ d : Dev nD, (tallyAt ((pt s d : Thread nD τ), sm') () n : CellTallies nD τ sig Unit) ((c : Thread nD τ), sm) ()) = if sm = sm' then n else 0 := by
  rw [← (ptEquiv s).sum_comp]
  rw [Finset.sum_congr rfl fun d _ => show (tallyAt ((pt s (ptEquiv s d) : Thread nD τ), sm') () n : CellTallies nD τ sig Unit) ((c : Thread nD τ), sm) ()
      = if d = c then (if sm = sm' then n else 0) else 0 from ?_]
  · rw [Finset.sum_ite_eq' Finset.univ c, if_pos (Finset.mem_univ _)]
  · rw [show pt s (ptEquiv s d) = d from pt_pt s d, tallyAt_apply]
    by_cases hd : d = c
    · subst hd
      by_cases hs : sm = sm'
      · subst hs; rw [if_pos ⟨rfl, rfl⟩, if_pos rfl, if_pos rfl]
      · rw [if_neg (fun h => hs (congrArg Prod.snd h.1)), if_pos rfl, if_neg hs]
    · rw [if_neg (fun h => hd (congrArg (fun g : GSem nD τ sig => g.1.1) h.1).symm), if_neg hd]

/-- The semaphores on which a device waits for others, -/
def waitSem : Fin 5 → SemLoc sig := ![.reg barrier0, .reg exitS, .dma (recvS 0), .dma (recvS 1), .dma (recvS 2)]
/-- and how many units it waits for. -/
def waitAmt : Fin 5 → ℕ := ![3, 3, N, N, N]

theorem waitSem_inj : Function.Injective waitSem := by decide

/-- The others owe a device the units that it waits for. -/
theorem owed_to (c : Dev nD) (k : Fin 5) : (∑ d : Dev nD, O₀ d ((c : Thread nD τ), waitSem k) ()) = waitAmt k := by
  unfold O₀
  simp only [oweL, Pi.add_apply, Finsupp.add_apply, Pi.zero_apply, Finsupp.zero_apply, Nat.zero_add, Finset.sum_add_distrib, sum_partner]
  fin_cases k <;> rfl

theorem launch_at (c : Dev nD) (k : Fin 5) :
    tallyOn ((c : Thread nD τ), waitSem k) (launchCredit (Pipeline.owing O₀) 0 ((c : Thread nD τ), waitSem k))
      = (tallyAt ((c : Thread nD τ), waitSem k) () (waitAmt k) : CellTallies nD τ sig Unit) := by
  unfold tallyAt
  refine congrArg _ (Finsupp.ext fun u => ?_)
  cases u
  rw [Pipeline.launchCredit_owing, Finsupp.single_eq_same, owed_to]

theorem launch_credits (c : Dev nD) : (Pipeline.launchCred O₀ c : sProp 𝕄) ⊢ credits c := by
  unfold Pipeline.launchCred
  refine (bigSep_subset (Finset.subset_univ (Finset.univ.map ⟨waitSem, waitSem_inj⟩))).trans ?_
  rw [bigSep_map, bigSep_univ_eq_bigSepL [(0 : Fin 5), 1, 2, 3, 4] (by decide) (by decide)]
  refine (show iprop(cred (tallyOn ((c : Thread nD τ), waitSem 0) (launchCredit (Pipeline.owing O₀) 0 ((c : Thread nD τ), waitSem 0)))
      ∗ cred (tallyOn ((c : Thread nD τ), waitSem 1) (launchCredit (Pipeline.owing O₀) 0 ((c : Thread nD τ), waitSem 1)))
      ∗ cred (tallyOn ((c : Thread nD τ), waitSem 2) (launchCredit (Pipeline.owing O₀) 0 ((c : Thread nD τ), waitSem 2)))
      ∗ cred (tallyOn ((c : Thread nD τ), waitSem 3) (launchCredit (Pipeline.owing O₀) 0 ((c : Thread nD τ), waitSem 3)))
      ∗ cred (tallyOn ((c : Thread nD τ), waitSem 4) (launchCredit (Pipeline.owing O₀) 0 ((c : Thread nD τ), waitSem 4)))) ⊢ _ from ?_)
  rw [launch_at, launch_at, launch_at, launch_at, launch_at]
  exact .rfl

end Cert.KernelIdeal.Exch

end
-- ==== Proof.KernelIdeal.Run.lean ====
/-
  The program's run on the eight devices.
-/
module

public import proofs.«01_k».proof.Proof.KernelIdeal.Segments
public import proofs.«01_k».proof.Proof.KernelIdeal.Dealing
public import Idealize.ShloMosaic.Adequacy
public import Idealize.ShloMosaic.Init

@[expose] public section

set_option maxRecDepth 16384

noncomputable section

namespace Cert.KernelIdeal.Exch

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg)

/-! ## What the launch starts from -/

theorem cells_inj : Function.Injective (Pipeline.cellOf (nD := nD) (τ := τ) (Pipeline.pin (pcfgs (F := F)) adm)) :=
  (launch0.toP (Val := Elt F)).cellOf_inj adm

/-- The launch's own resource: the staging copies' cells, and the exchange's cells with the tokens of all duties. -/
def u₀ : UU :=
  (initOf (Pipeline.cells (Pipeline.pin (pcfgs (F := F)) adm) cells_inj) (Pipeline.launchToks (Pipeline.pin (pcfgs (F := F)) adm) cells_inj),
    launchOf meetCells ownCells allToks)

/-- A resource that device 0 alone holds. -/
def atZero (X : sProp 𝕄) (c : Dev nD) : sProp 𝕄 := if c = 0 then X else iprop(emp)
theorem bigSep_atZero (X : sProp 𝕄) : bigSep Finset.univ (atZero X) = X := by
  rw [bigSep_univ_at _ (0 : Dev nD), bigSep_congr (s := Finset.univ.erase (0 : Dev nD)) (Ψ := fun _ => (BI.emp : sProp 𝕄))
      fun c hc => by unfold atZero; rw [if_neg (Finset.ne_of_mem_erase hc)]; rfl, BI.bigSep_emp_const]
  unfold atZero; rw [if_pos rfl]
  exact BI.equiv_iff.mp sep_emp

/-- The exchange's part of it, with device 0 until it is dealt. -/
def G : Dev nD → sProp 𝕄 := atZero (BI.own (ER (launchOf meetCells ownCells allToks)))

theorem unscoped_bar : ∀ sm : SemLoc sig, sm.isScoped .tc = false → sm = .reg barrier0 := by decide
theorem unscopedSems_eq (c : Dev nD) : (unscopedSems0 c : sProp 𝕄) = semVal (barCell c) 0 := by
  unfold unscopedSems0
  rw [show (Finset.univ.filter fun sm : SemLoc sig => ¬ sm.isScoped .tc) = {SemLoc.reg barrier0} from by decide, BI.bigSep_singleton]

/-! ## Dealing -/

/-- What stays with device `c` of the exchange's part. -/
def dealt (c : Dev nD) : sProp 𝕄 :=
  iprop(atPos ER (barCell c) 0 ∅ 0 ∗ (bigSep Finset.univ fun k => openTok ER ((c : Thread nD τ), osem k)) ∗ tokens c)
/-- What of a device's launch holdings is no part of the exchange's. -/
def holdings (c : Dev nD) : sProp 𝕄 :=
  iprop(StableHlo.held (c.tc : Thread nD τ) (Pipeline.ucRefs τ sig) (V₀ m c) ∗ credits c ∗ owes (c : Thread nD τ) (O₀ c) ∅ ∗ ∃ r, prngReg c r)

/-- Where device `c`'s program starts. -/
abbrev T₀ (c : Dev nD) : sProp 𝕄 := iprop(StableHlo.held (c.tc : Thread nD τ) (Pipeline.ucRefs τ sig) (V₀ m c) ∗ carried m c)
/-- Where it ends. -/
abbrev Tₙ (c : Dev nD) : sProp 𝕄 := iprop(StableHlo.held (c.tc : Thread nD τ) (Pipeline.ucRefs τ sig) (V₂ m c) ∗ semVal (barCell c) 0)

theorem start_of (K : GSem nD τ sig → ℕ) (c : Dev nD) : iprop(records (sent (opsAt m)) K ∗ (dealt c ∗ holdings m c)) ⊢ T₀ m c := by
  unfold dealt holdings T₀ carried Tk ghost
  iintro ⟨#HR, ⟨Hat, Ho, Ht⟩, Hh, Hcr, HO, Hp⟩
  isplitl [Hh]; · iexact Hh
  isplitl [Hat Ho Ht Hcr]
  · isplitr [Hcr]
    · iexists K
      isplitr; · iexact HR
      isplitl [Hat]; · iexact Hat
      isplitl [Ho] <;> iassumption
    iexact Hcr
  isplitl [Hp]; · iexact Hp
  iexists ∅; iexact HO

theorem device_holds (c : Dev nD) :
    iprop(unscopedBufs c (fun b => m ((c : Thread nD τ).loc b)) ∗ unscopedSems0 c
        ∗ owes (c : Thread nD τ) (O₀ c) ∅ ∗ Pipeline.launchCred O₀ c ∗ prngReg c (ρ c) ∗ G c)
      ⊢ (iprop(holdings m c ∗ (semVal (barCell c) 0 ∗ G c)) : sProp 𝕄) := by
  rw [show unscopedBufs c (fun b => m ((c : Thread nD τ).loc b)) = StableHlo.held (c.tc : Thread nD τ) (Pipeline.ucRefs τ sig) (V₀ m c) from
      Pipeline.unscopedBufs_held c (V₀ m c), unscopedSems_eq]
  unfold holdings
  iintro ⟨Hh, Hus, HO, Hcr, Hp, HG⟩
  ihave Hc := (launch_credits c) $$ Hcr
  isplitl [Hh Hc HO Hp]
  · isplitl [Hh]; · iexact Hh
    isplitl [Hc]; · iexact Hc
    isplitl [HO]; · iexact HO
    iexists (ρ c); iexact Hp
  isplitl [Hus] <;> iassumption

theorem bars_out (Φ : GSem nD τ sig → sProp 𝕄) : bigSep meetCells Φ = bigSep Finset.univ fun c : Dev nD => Φ (barCell c) :=
  bigSep_map (s := Finset.univ) meetEmb (Φ := Φ)
theorem owns_out (Φ : GSem nD τ sig → sProp 𝕄) : bigSep ownCells Φ = bigSep Finset.univ fun c : Dev nD => bigSep Finset.univ fun k => Φ ((c : Thread nD τ), osem k) := by
  rw [bigSep_map, bigSep_univ_prod]; rfl

/-- The launch: every device's cells set up, and all dealt. -/
theorem launch :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c)) ∗ levAts L lv)
      ⊢ (|={Set.univ}=> bigSep Finset.univ (T₀ m) : sProp 𝕄) := by
  refine (sep_mono_left (bigSep_mono fun c _ => device_holds m ρ c)).trans ?_
  rw [bigSep_sep', bigSep_sep', ← bars_out (fun g => semVal g 0), show bigSep Finset.univ (G (F := F)) = _ from bigSep_atZero _]
  iintro ⟨⟨HB, Hv, Hu⟩, -⟩
  imod (Rounds.fund_launch ER (Rd (sent (opsAt m))) cells_disjoint (fun g _ h => h) allToks) $$ [Hv Hu] with ⟨%K, -, #Hinv, #Hr, Hat, Hopen, Htok⟩
  · isplitl [Hv] <;> iassumption
  imodintro
  iapply (bigSep_with_persistent (R := records (sent (opsAt m)) K) (Φ := fun c => iprop(dealt c ∗ holdings m c)) fun c _ => start_of m K c)
  isplitr
  · unfold records
    isplitr; · iexact Hinv
    iexact Hr
  unfold dealt
  rw [bigSep_sep', bigSep_sep', bigSep_sep', ← toks_by_payer, ← owns_out fun g => openTok ER g, ← bars_out fun g => atPos ER g 0 ∅ 0]
  isplitr [HB]
  · isplitl [Hat]; · iexact Hat
    isplitl [Hopen] <;> iassumption
  iexact HB

/-! ## The run -/

/-- A buffer held at a valuation is in the memory. -/
theorem read_held (c : Dev nD) (W : Valuation τ sig (Elt F)) (s : Phys nD τ sig (Elt F)) :
    iprop(StableHlo.held (c.tc : Thread nD τ) (Pipeline.ucRefs τ sig) W ∗ SI s)
      ⊢ (<pers> ⌜∀ b : Ref sig .tc, Proc.devRef (τ := τ) .tc b ∈ Pipeline.ucRefs τ sig → s.mem.mem ((c : Thread nD τ).loc b) = W b⌝ : sProp 𝕄) := by
  have h1 (b : Ref sig .tc) (hb : Proc.devRef (τ := τ) .tc b ∈ Pipeline.ucRefs τ sig) :
      iprop(StableHlo.held (c.tc : Thread nD τ) (Pipeline.ucRefs τ sig) W ∗ SI s) ⊢ (⌜s.mem.mem ((c : Thread nD τ).loc b) = W b⌝ : sProp 𝕄) := by
    unfold StableHlo.held
    refine (sep_mono_left (bigSep_elim hb)).trans ?_
    iintro ⟨Hx, HSI⟩
    icombine HSI Hx gives %hx
    ipureintro
    exact Buf.eq_of_forall_mem_univ hx
  exact BI.Entails.trans (show _ ⊢ (⌜∀ b : Ref sig .tc, Proc.devRef (τ := τ) .tc b ∈ Pipeline.ucRefs τ sig → s.mem.mem ((c : Thread nD τ).loc b) = W b⌝ : sProp 𝕄) from
    fun x hx b hb => h1 b hb x hx) persistently_pure.2

/-- The program's two segments. -/
abbrev segs : List (Pipeline.Seg (pcfgs (F := F)) adm (pdats m) () defs₀ 𝒱₀ L lv) := [.host (hostSeg m), .region (reg m)]

set_option backward.isDefEq.respectTransparency.types false in
/-- From any memory and zero semaphores: every weakly fair execution on the eight devices ends; then every buffer that is not
    the kernel's own holds what the segments leave there, and every semaphore is at zero. -/
theorem run_all : θ_run (defs (F := F)) (onTc (τ := τ) (main (F := F))) ⟨m, fun _ => 0, ρ⟩
    (fun r => (∀ c : Dev nD, ∀ b : Ref sig .tc, Proc.devRef (τ := τ) .tc b ∈ Pipeline.ucRefs τ sig → r.2.mem ((c : Thread nD τ).loc b) = V₂ m c b)
      ∧ r.2.sem = fun _ => 0) :=
  Pipeline.θ_run_regions_kit_sems (pcfgs (F := F)) adm (pdats m) () cells_inj EP defs₀ 𝒱₀ L lv m ρ main (segs m)
    (fun c Q => by rw [main_segs adm (pdats m) () 𝒱₀ L lv (hostSeg m) (reg m) rfl c])
    (by simp only [segs, Pipeline.Seg.pipes_host, Pipeline.Seg.pipes_region, Pipeline.Seg.pipes_nil]; decide)
    (O₀ := O₀) (hL := L_of_ne) (G := G) (u₀ := u₀ (F := F))
    (hu₀ := by
      unfold u₀ G
      iintro Hu
      ihave H := (ownU_pair _ _) $$ Hu
      icases H with ⟨HP, HX⟩
      imodintro
      isplitl [HP]; · iexact HP
      rw [bigSep_atZero]; iexact HX)
    (T₀ := T₀ m) (Tₙ := Tₙ m)
    (hch := ⟨fun c => .rfl, fun c => reg_pre m c, fun c => reg_post m c⟩)
    (hinit := launch m ρ)
    (QY := fun c s => (∀ b : Ref sig .tc, Proc.devRef (τ := τ) .tc b ∈ Pipeline.ucRefs τ sig → s.mem ((c : Thread nD τ).loc b) = V₂ m c b) ∧ s.sem (barCell c) = 0)
    (hfin := fun c s' => by
      dsimp only [Tₙ]
      iintro ⟨⟨Hh, Hb⟩, HSI⟩
      ihave %hm := (read_held c (V₂ m c) s') $$ [Hh HSI]
      · isplitl [Hh] <;> iassumption
      icombine HSI Hb gives %hb
      imodintro
      isplitr
      · ipureintro
        exact ⟨hm, by simpa using hb⟩
      iexact HSI)
    (hQ := fun s h hs => ⟨fun c => (h c).1, sem_eq_zero hs fun c sm hsm => by
      obtain rfl := unscoped_bar sm hsm
      exact (h c).2⟩)

theorem arg_mem : ∀ b ∈ [main_arg0, main_arg1, main_arg2, main_arg3, main_arg4, main_v3], Proc.devRef (τ := τ) .tc b ∈ Pipeline.ucRefs τ sig := by decide

/-- The run: the result holds what the exchange leaves, the arguments are as before, every semaphore is at zero. -/
theorem run_main : θ_run (defs (F := F)) (onTc (τ := τ) (main (F := F))) ⟨m, fun _ => 0, ρ⟩
    (fun r => (∀ c : Dev nD, r.2.mem ((c.tc : Thread nD τ).loc main_v3) = (dat m c).arrAt 5 cfg0.N
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4))
      ∧ r.2.sem = fun _ => 0) :=
  (θ_run _ _ _).mono (fun r h => ⟨fun c =>
    ⟨(h.1 c main_v3 (arg_mem _ (by decide))).trans (V₂_result m c),
      (h.1 c main_arg0 (arg_mem _ (by decide))).trans ((V₂_ne m c (by decide)).trans (V_main_arg0 m c)),
      (h.1 c main_arg1 (arg_mem _ (by decide))).trans ((V₂_ne m c (by decide)).trans (V_main_arg1 m c)),
      (h.1 c main_arg2 (arg_mem _ (by decide))).trans ((V₂_ne m c (by decide)).trans (V_main_arg2 m c)),
      (h.1 c main_arg3 (arg_mem _ (by decide))).trans ((V₂_ne m c (by decide)).trans (V_main_arg3 m c)),
      (h.1 c main_arg4 (arg_mem _ (by decide))).trans ((V₂_ne m c (by decide)).trans (V_main_arg4 m c))⟩, h.2⟩) (run_all m ρ)

end Cert.KernelIdeal.Exch

end
-- ==== Proof.Value.Attend.lean ====
/-
  One row of attention over the extended reals: scores, their maximum, the exponentials of the differences, and the
  weighted mean of the values, with the division by the sum before or after the weighting.
-/
module

public import Idealize.ShloMosaic.PureOps.Ideal.Laws

@[expose] public section

noncomputable section

namespace Cert.Attention

open Idealize.ShloMosaic

/-- The pattern of minus infinity is the least extended real, -/
theorem ofBits_bot : Ideal.ofBits .f32 0xFF800000#32 = ⊥ := by simp [Ideal.ofBits, Ideal.ieee]
/-- and that of infinity the greatest. -/
theorem ofBits_top : Ideal.ofBits .f32 0x7F800000#32 = ⊤ := by simp [Ideal.ofBits, Ideal.ieee]

/-- The factor of the scores, one eighth. -/
abbrev scale : EReal := Ideal.ofBits .f32 0x3E000000#32

/-- The factor is a real. -/
theorem scale_real : ∃ x : ℝ, scale = x := by
  simp only [scale, Ideal.ofBits, Ideal.ieee]
  simp
  exact ⟨_, (EReal.coe_mul _ _).symm⟩

variable {n : ℕ}

/-- The greatest of a row of scores. -/
def peak (s : Fin n → EReal) : EReal := Finset.univ.fold max ⊥ s

/-- The weight of the score `j` before the division by the sum. -/
def weight (s : Fin n → EReal) (j : Fin n) : EReal := Ideal.exp (s j - peak s)

/-- The sum of the weights. -/
def mass (s : Fin n → EReal) : EReal := ∑ j, weight s j

/-- The mean of the values `v` under the scores `s`: each weight divided by the sum, then the weighted sum. -/
def attend (s v : Fin n → EReal) : EReal := ∑ j, Ideal.div (weight s j) (mass s) * v j

/-- The greatest of finite scores is one of them. -/
theorem peak_real (s : Fin (n + 1) → EReal) (h : ∀ j, ∃ x : ℝ, s j = x) : ∃ j, peak s = s j := by
  have hp : peak s = Finset.univ.sup s := rfl
  obtain ⟨j, -, hj⟩ := Finset.exists_mem_eq_sup Finset.univ Finset.univ_nonempty s
  exact ⟨j, hp.trans hj⟩

/-- Of finite scores each weight is a real that is not negative, and the greatest score's weight is one. -/
theorem weight_real (s : Fin (n + 1) → EReal) (h : ∀ j, ∃ x : ℝ, s j = x) :
    ∃ w : Fin (n + 1) → ℝ, (∀ j, weight s j = w j) ∧ (∀ j, 0 < w j) := by
  obtain ⟨i, hi⟩ := peak_real s h
  choose x hx using h
  refine ⟨fun j => Real.exp (x j - x i), fun j => ?_, fun j => Real.exp_pos _⟩
  unfold weight
  rw [hi, hx j, hx i, ← EReal.coe_sub]
  rfl

/-- A sum of reals, taken among the extended reals, is a real: the same sum. -/
theorem sum_real {ι : Type} (S : Finset ι) (f : ι → ℝ) : ∑ i ∈ S, (f i : EReal) = ((∑ i ∈ S, f i : ℝ) : EReal) := by
  classical
  induction S using Finset.induction_on with
  | empty => simp
  | insert a S ha ih => rw [Finset.sum_insert ha, Finset.sum_insert ha, ih, EReal.coe_add]

/-- Of finite scores the sum of the weights is a positive real. -/
theorem mass_real (s : Fin (n + 1) → EReal) (h : ∀ j, ∃ x : ℝ, s j = x) : ∃ l : ℝ, mass s = l ∧ 0 < l := by
  obtain ⟨w, hw, pos⟩ := weight_real s h
  refine ⟨∑ j, w j, ?_, Finset.sum_pos (fun j _ => pos j) Finset.univ_nonempty⟩
  unfold mass
  simp only [hw]
  exact sum_real _ _

/-- A sum times a real that is not negative is the sum of the products, whatever the terms. -/
theorem sum_mul_real {ι : Type} (S : Finset ι) (f : ι → EReal) (r : ℝ) (hr : 0 ≤ r) :
    (∑ i ∈ S, f i) * (r : EReal) = ∑ i ∈ S, f i * r := by
  classical
  induction S using Finset.induction_on with
  | empty => simp
  | insert a S ha ih =>
    rw [Finset.sum_insert ha, Finset.sum_insert ha, ← ih]
    exact EReal.right_distrib_of_nonneg_of_ne_top (EReal.coe_nonneg.mpr hr) (EReal.coe_ne_top r) _ _

/-- Of finite scores it makes no difference whether the division by the sum comes before the weighting or after it. -/
theorem attend_eq (s v : Fin (n + 1) → EReal) (h : ∀ j, ∃ x : ℝ, s j = x) :
    attend s v = Ideal.div (∑ j, v j * weight s j) (mass s) := by
  obtain ⟨l, hl, pos⟩ := mass_real s h
  have hne : (l : EReal) ≠ 0 := by exact_mod_cast pos.ne'
  unfold attend
  simp only [hl, Ideal.div, if_neg hne]
  rw [← EReal.coe_inv, sum_mul_real _ _ _ (inv_nonneg.mpr pos.le)]
  exact Finset.sum_congr rfl fun j _ => by rw [mul_comm (v j), mul_right_comm]

end Cert.Attention

end
-- ==== Proof.Value.Finite.lean ====
/-
  What the precondition says: the activations, a device's query weights and the keys are reals.
-/
module

public import proofs.«01_k».proof.Pre_finite_scores_KernelIdeal
public import proofs.«01_k».proof.Pre_finite_scores_ReferenceIdeal
public import proofs.«01_k».proof.Proof.Value.Attend
public import Idealize.ShloMosaic.Lib.Pointwise

@[expose] public section

set_option maxRecDepth 16384

noncomputable section

namespace Cert.Pre_finite_scores_KernelIdeal

open Cert.Attention
open Idealize.ShloMosaic

/-- The precondition's side conditions hold. -/
theorem facts : Facts := ⟨by decide, by decide, by decide, by decide⟩

variable [Facts]
open Facts

/-- An extended real whose absolute value is compared less than infinity is a real. -/
theorem real_of_abs_lt {φ : FTy} (x : Ideal φ) (h : BitVec.ofBool (decide (FloatOps.absf x < Ideal.ofBits .f32 0x7F800000#32)) = 1#1) :
    ∃ y : ℝ, x = y := by
  have e : max (x : EReal) (-x) < ⊤ := by
    rw [ofBits_top] at h
    by_contra hn
    rw [show decide (FloatOps.absf x < (⊤ : EReal)) = false from decide_eq_false hn] at h
    exact absurd h (by decide)
  induction x using EReal.rec with
  | bot => simp at e
  | top => simp at e
  | coe y => exact ⟨y, rfl⟩

variable (a0 : FVec Ideal S2x128x512 .bf16) (a1 : FVec Ideal S512x512 .bf16) (a2 a3 : FVec Ideal S2x128x16x64 .bf16) (a4 : FVec Ideal S512x512 .bf16)

/-- Where the precondition's first answer is yes everywhere, the activations are reals; -/
theorem x_real (h : (fn a0 a1 a2 a3 a4).1 = fun _ => 1#1) (i) : ∃ y : ℝ, a0 i = y := by
  have e := congrFun h i
  pointwise [fn] at e
  exact real_of_abs_lt _ e

/-- where the second is, the query weights; -/
theorem wq_real (h : (fn a0 a1 a2 a3 a4).2.1 = fun _ => 1#1) (i) : ∃ y : ℝ, a1 i = y := by
  have e := congrFun h i
  pointwise [fn] at e
  exact real_of_abs_lt _ e

/-- and where the third is, the keys. -/
theorem k_real (h : (fn a0 a1 a2 a3 a4).2.2 = fun _ => 1#1) (i) : ∃ y : ℝ, a2 i = y := by
  have e := congrFun h i
  pointwise [fn] at e
  exact real_of_abs_lt _ e

end Cert.Pre_finite_scores_KernelIdeal

namespace Cert.Pre_finite_scores_ReferenceIdeal

/-- The precondition's side conditions hold at the reference's shapes. -/
theorem facts : Facts := ⟨by decide, by decide, by decide, by decide⟩

end Cert.Pre_finite_scores_ReferenceIdeal

end
-- ==== Proof.Value.Head.lean ====
/-
  What one device computes, at an index and over the extended reals: the query projection, one head's attention, the
  partial product and the addition of a received block.
-/
module

public import proofs.«01_k».proof.Proof.KernelIdeal.Contents
public import proofs.«01_k».proof.Proof.Value.Attend
public import Idealize.ShloMosaic.Lib.Pointwise

@[expose] public section

set_option maxRecDepth 16384

noncomputable section

namespace Cert.KernelIdeal.Exch

open Cert.KernelIdeal Cert.KernelIdeal.Gen Cert.Attention
open Idealize.ShloMosaic

/-- Device `c`'s key or value head `g` among the sixteen. -/
abbrev kvHead (c : Dev nD) (g : Fin 2) : Fin 16 := ⟨2 * c.val + g.val, by have := c.isLt; have : c.val < 8 := this; omega⟩

/-- One head's result at a row and a column. -/
theorem headOut_apply (q : FVec Ideal S128x64 .f32) (k v : Vec Ideal S1x1x128x64 .bf16) (r : Fin 128) (d : Fin 64) :
    headOut q k v (ix2 r d) = attend (fun j : Fin 128 => (∑ e : Fin 64, q (ix2 r e) * k (ix4 0 0 j e)) * scale) (fun j => v (ix4 0 0 j d)) := by
  pointwise [headOut, k0_pay12, k0_pay11, attend, mass, weight, peak, ofBits_bot]

/-- The query projection of a batch: a sum over the model's columns. -/
theorem qProj_apply (A : Ops Ideal) (b : Fin 2) (r : Fin 128) (n : Fin 512) :
    qProj A b (ix2 r n) = ∑ k : Fin 512, A.x (ix3 b r k) * A.wq (ix2 k n) := by
  pointwise [qProj, k0_pay1, xRow, VecWindow.window]
  refine Finset.sum_congr rfl fun k _ => congrArg (· * _) (congrArg A.x (funext fun a => Fin.ext ?_))
  fin_cases a
  · show b.val + 0 * 1 = b.val; omega
  · show 0 + 1 * r.val = r.val; omega
  · show 0 + 1 * k.val = k.val; omega

/-- A key or value head of a batch, in the device's array of all the heads. -/
theorem kvSlab_apply (c : Dev nD) (X : S2x16x128x64.Idx → Elt Ideal .bf16) (b g : Fin 2) (j : Fin 128) (d : Fin 64) :
    kvSlab c X b g (ix4 0 0 j d) = X (ix4 b (kvHead c g) j d) := by
  refine congrArg X (funext fun a => Fin.ext ?_)
  fin_cases a
  · show b.val + 0 * 1 = b.val; omega
  · show 2 * c.val + g.val + 0 * 1 = 2 * c.val + g.val; omega
  · show 0 + 1 * j.val = j.val; omega
  · show 0 + 1 * d.val = d.val; omega

/-- The product of the heads with the output weights. -/
theorem pay18_apply (p : Vec Ideal S128x512 .bf16) (w : Vec Ideal S512x512 .bf16) (r : Fin 128) (n : Fin 512) :
    k0_pay18 p w (ix3 0 r n) = ∑ k : Fin 512, p (ix2 r k) * w (ix2 k n) := by
  pointwise [k0_pay18]

/-- The rounded block that a device receives is added as it is: over the extended reals a rounding changes nothing. -/
theorem addIn_apply (o o' : S2x128x512.Idx → Elt Ideal .f32) (i) : addIn o (rnd o') i = o i + o' i := by
  pointwise [addIn, rnd, k0_pay37, k0_pay38]

/-- One head of a device's batch at a row and a column. -/
theorem headAt_apply (q : FVec Ideal S128x512 .f32) (K V : Fin 2 → Vec Ideal S1x1x128x64 .bf16) (h : Fin 8) (r : Fin 128) (d : Fin 64) :
    headAt q K V h (ix2 r d) = attend (fun j : Fin 128 => (∑ e : Fin 64, q (ix2 r ⟨64 * h.val + e.val, by omega⟩) * K ⟨h.val / 4, by omega⟩ (ix4 0 0 j e)) * scale)
      (fun j => V ⟨h.val / 4, by omega⟩ (ix4 0 0 j d)) := by
  unfold headAt
  rw [headOut_apply]
  pointwise

/-- The heads side by side: column `n` lies in head `n / 64`. -/
theorem heads_apply (c : Dev nD) (A : Ops Ideal) (b : Fin 2) (r : Fin 128) (n : Fin 512) :
    heads c A b (ix2 r n) = headAt (qProj A b) (kvSlab c A.k b) (kvSlab c A.v b) ⟨n.val / 64, by omega⟩ (ix2 r ⟨n.val % 64, by omega⟩) := by
  unfold heads colsOf
  refine congrArg _ (funext fun a => ?_)
  fin_cases a <;> rfl

/-- The partial product of a device, at a batch, a row and a column. -/
theorem out0_apply (c : Dev nD) (A : Ops Ideal) (b : Fin 2) (r : Fin 128) (n : Fin 512) :
    out0 c A (ix3 b r n) = ∑ k : Fin 512, heads c A b (ix2 r k) * A.wo (ix2 k n) := by
  unfold out0 rowsOf
  refine Eq.trans ?_ (pay18_apply (heads c A b) A.wo r n)
  refine congrArg _ (funext fun a => ?_)
  fin_cases a <;> rfl

end Cert.KernelIdeal.Exch

end
-- ==== Proof.Value.Whole.lean ====
/-
  After the three exchanges every device holds the sum of the eight partial products.
-/
module

public import proofs.«01_k».proof.Proof.Value.Head

@[expose] public section

set_option maxRecDepth 16384

noncomputable section

namespace Cert.KernelIdeal.Exch

open Cert.KernelIdeal Cert.KernelIdeal.Gen Cert.Attention
open Idealize.ShloMosaic

variable (A : Dev nD → Ops Ideal)

/-- Three rounds of pairwise addition, the partner at distance one, then three, then four, add up a value of every device. -/
theorem sum_of_rounds (f : Dev nD → EReal) (c : Dev nD) :
    ((f c + f (pt 0 c)) + (f (pt 1 c) + f (pt 0 (pt 1 c)))) + ((f (pt 2 c) + f (pt 0 (pt 2 c))) + (f (pt 1 (pt 2 c)) + f (pt 0 (pt 1 (pt 2 c)))))
      = ∑ d : Dev nD, f d := by
  have hperm : ∀ c : Dev nD, ([c, pt 0 c, pt 1 c, pt 0 (pt 1 c), pt 2 c, pt 0 (pt 2 c), pt 1 (pt 2 c), pt 0 (pt 1 (pt 2 c))] : List (Dev nD)).Perm
      (List.finRange nD) := by decide
  have h : ∑ d : Dev nD, f d = ((List.finRange nD).map f).sum := by rw [Fin.sum_univ_def]
  rw [h, ← ((hperm c).map f).sum_eq]
  simp only [List.map_cons, List.map_nil, List.sum_cons, List.sum_nil, add_zero, add_assoc]

/-- Every device ends with the sum of all the partial products. -/
theorem out3_apply (c : Dev nD) (i) : out3 A c i = ∑ d : Dev nD, out0 d (A d) i := by
  unfold out3 out2 out1
  simp only [addIn_apply]
  exact sum_of_rounds (fun d => out0 d (A d) i) c

end Cert.KernelIdeal.Exch

end
-- ==== Proof.Value.Arrays.lean ====
/-
  The kernel's operands and result as whole arrays: each window is its whole array, two of the arrays are
  transposes of arguments, and the result array ends at what the device holds after the exchanges.
-/
module

public import proofs.«01_k».proof.Proof.Value.Whole
public import proofs.«01_k».proof.Proof.KernelIdeal.Region
public import Idealize.ShloMosaic.Lib.Pipeline.ValueKit.Geometry

@[expose] public section

set_option maxRecDepth 16384

noncomputable section

namespace Cert.KernelIdeal.Exch

open Cert.KernelIdeal Cert.KernelIdeal.Gen Cert.Attention
open Idealize.ShloMosaic Idealize.ShloMosaic.TcCoe Idealize.ShloMosaic.StableHlo
open Idealize.ShloMosaic.Pipeline (Dat)

variable (m : (ℓ : Loc nD τ sig) → Buf (Elt Ideal) ℓ)

/-- The region finds the transposed keys in its fourth operand. -/
theorem V_keys (c : Dev nD) : V m c main_v1 = transpose S2x16x128x64 [0, 2, 1, 3] (m ((c : Thread nD τ).loc main_arg2)) transposes_S2x128x16x64_S2x16x128x64_0_2_1_3 := by
  unfold V
  after_results_simp <;> rfl
/-- The region finds the transposed values in its fifth operand. -/
theorem V_values (c : Dev nD) : V m c main_v2 = transpose S2x16x128x64 [0, 2, 1, 3] (m ((c : Thread nD τ).loc main_arg3)) transposes_S2x128x16x64_S2x16x128x64_0_2_1_3 := by
  unfold V
  after_results_simp <;> rfl

/-- The index of a whole window's block is zero on every axis. -/
theorem index_zero (w : Fin cfg0.W) (a) : (cfg0.win w).index t0_0 a = 0 := by
  fin_cases w <;> rfl

/-- The operands of device `c`: three arguments and two transposes of arguments, whole. -/
theorem opsAt_eq (c : Dev nD) : opsAt m c = ⟨m ((c : Thread nD τ).loc main_arg0), m ((c : Thread nD τ).loc main_arg1), m ((c : Thread nD τ).loc main_arg4),
    transpose S2x16x128x64 [0, 2, 1, 3] (m ((c : Thread nD τ).loc main_arg2)) transposes_S2x128x16x64_S2x16x128x64_0_2_1_3,
    transpose S2x16x128x64 [0, 2, 1, 3] (m ((c : Thread nD τ).loc main_arg3)) transposes_S2x128x16x64_S2x16x128x64_0_2_1_3⟩ := by
  have h (w : Fin cfg0.W) (y) (a) : ((((cfg0.win w).rect t0_0).emb y) a).val = (y a).val :=
    Pipeline.Window.rect_emb_val_of_index_zero _ _ _ (index_zero w a) y
  rw [← V_main_arg0 m c, ← V_main_arg1 m c, ← V_main_arg4 m c, ← V_keys m c, ← V_values m c]
  unfold opsAt
  congr 1
  · funext i; exact congrArg (V m c main_arg0) (funext fun a => Fin.ext (h 0 i a))
  · funext i; exact congrArg (V m c main_arg1) (funext fun a => Fin.ext (h 1 i a))
  · funext i; exact congrArg (V m c main_arg4) (funext fun a => Fin.ext (h 2 i a))
  · funext i; exact congrArg (V m c main_v1) (funext fun a => Fin.ext (h 3 i a))
  · funext i; exact congrArg (V m c main_v2) (funext fun a => Fin.ext (h 4 i a))

/-- The result's array ends at what the device holds after the three exchanges. -/
theorem result_array (c : Dev nD) : (dat m c).arrAt 5 cfg0.N = out3 (opsAt m) c := by
  refine (dat m c).arrAt_eq_of_after_last 5 t0_0 (by decide +kernel) _ fun j => ?_
  blk_simp
  dsimp only [dat]

end Cert.KernelIdeal.Exch

end
-- ==== Proof.Value.Model.lean ====
/-
  What both programs compute, as one formula over the extended reals: attention with sixty-four query heads, four to each
  of sixteen key and value heads, between a projection of the activations and a projection of the heads' results.
-/
module

public import proofs.«01_k».proof.Proof.Value.Attend

@[expose] public section

noncomputable section

namespace Cert.Attention

open Idealize.ShloMosaic

/-- The five arguments, whole. -/
structure Args where
  x : Fin 2 → Fin 128 → Fin 512 → EReal
  wq : Fin 512 → Fin 4096 → EReal
  k : Fin 2 → Fin 128 → Fin 16 → Fin 64 → EReal
  v : Fin 2 → Fin 128 → Fin 16 → Fin 64 → EReal
  wo : Fin 4096 → Fin 512 → EReal

namespace Args

variable (A : Args)

/-- The activations, the query weights and the keys are reals. -/
def Real : Prop :=
  (∀ b r k, ∃ y : ℝ, A.x b r k = y) ∧ (∀ k n, ∃ y : ℝ, A.wq k n = y) ∧ (∀ b j h d, ∃ y : ℝ, A.k b j h d = y)

/-- Column `n` of the projected activations. -/
def query (b : Fin 2) (r : Fin 128) (n : Fin 4096) : EReal := ∑ k : Fin 512, A.x b r k * A.wq k n

/-- Query head `h`'s score of position `j`. -/
def score (b : Fin 2) (r : Fin 128) (h : Fin 64) (j : Fin 128) : EReal :=
  (∑ e : Fin 64, A.query b r ⟨h.val * 64 + e.val, by omega⟩ * A.k b j ⟨h.val / 4, by omega⟩ e) * scale

/-- Column `n` of the heads' results side by side: it lies in head `n / 64`. -/
def column (b : Fin 2) (r : Fin 128) (n : Fin 4096) : EReal :=
  attend (A.score b r ⟨n.val / 64, by omega⟩) fun j => A.v b j ⟨n.val / 64 / 4, by omega⟩ ⟨n.val % 64, by omega⟩

/-- The result. -/
def result (b : Fin 2) (r : Fin 128) (n : Fin 512) : EReal := ∑ k : Fin 4096, A.column b r k * A.wo k n

/-- A sum of products of reals is a real. -/
theorem sum_mul_is_real {n : ℕ} (f g : Fin n → EReal) (hf : ∀ i, ∃ y : ℝ, f i = y) (hg : ∀ i, ∃ y : ℝ, g i = y) :
    ∃ y : ℝ, ∑ i, f i * g i = y := by
  choose a ha using hf
  choose b hb using hg
  refine ⟨∑ i, a i * b i, ?_⟩
  rw [← sum_real]
  exact Finset.sum_congr rfl fun i _ => by rw [ha, hb, EReal.coe_mul]

/-- Of real activations, query weights and keys the scores are reals. -/
theorem score_real (h : A.Real) (b : Fin 2) (r : Fin 128) (g : Fin 64) (j : Fin 128) : ∃ y : ℝ, A.score b r g j = y := by
  obtain ⟨y, hy⟩ := sum_mul_is_real _ _ (fun e : Fin 64 => sum_mul_is_real _ _ (h.1 b r) (fun k => h.2.1 k ⟨g.val * 64 + e.val, by omega⟩))
    (fun e => h.2.2 b j ⟨g.val / 4, by omega⟩ e)
  obtain ⟨s, hs⟩ := scale_real
  exact ⟨y * s, (congrArg₂ (· * ·) hy hs).trans (EReal.coe_mul y s).symm⟩

end Args

end Cert.Attention

end
-- ==== Proof.Value.Equation.lean ====
/-
  The kernel's sum of the eight partial products is the formula, if each device's operands are its parts of the
  formula's arguments: the activations, keys and values whole, 512 columns of the query weights and 512 rows of the
  output weights.
-/
module

public import proofs.«01_k».proof.Proof.Value.Whole
public import proofs.«01_k».proof.Proof.Value.Model

@[expose] public section

set_option maxRecDepth 16384

noncomputable section

namespace Cert.KernelIdeal.Exch

open Cert.KernelIdeal Cert.KernelIdeal.Gen Cert.Attention
open Idealize.ShloMosaic

/-- Column or row `n` of device `c`'s 512, among the 4096. -/
abbrev part (c : Dev nD) (n : Fin 512) : Fin 4096 := ⟨c.val * 512 + n.val, by have : c.val < 8 := c.isLt; omega⟩

/-- The operands of device `c` are its parts of the arguments `G`. -/
structure Parts (c : Dev nD) (A : Ops Ideal) (G : Args) : Prop where
  x : ∀ b r i, A.x (ix3 b r i) = G.x b r i
  wq : ∀ i n, A.wq (ix2 i n) = G.wq i (part c n)
  wo : ∀ i n, A.wo (ix2 i n) = G.wo (part c i) n
  k : ∀ b h j d, A.k (ix4 b h j d) = G.k b j h d
  v : ∀ b h j d, A.v (ix4 b h j d) = G.v b j h d

variable {c : Dev nD} {A : Ops Ideal} {G : Args}

/-- A column of a device's query projection is the column of the formula's at the device's place. -/
theorem query_eq (P : Parts c A G) (b : Fin 2) (r : Fin 128) (n : Fin 512) : qProj A b (ix2 r n) = G.query b r (part c n) := by
  rw [qProj_apply]
  exact Finset.sum_congr rfl fun i _ => congrArg₂ (· * ·) (P.x b r i) (P.wq i n)

/-- A column of a device's heads is the column of the formula's at the device's place. -/
theorem column_eq (P : Parts c A G) (b : Fin 2) (r : Fin 128) (n : Fin 512) : heads c A b (ix2 r n) = G.column b r (part c n) := by
  have hc : c.val < 8 := c.isLt
  rw [heads_apply, headAt_apply]
  unfold Args.column
  have hkv : kvHead c ⟨n.val / 64 / 4, by omega⟩ = ⟨(part c n).val / 64 / 4, by omega⟩ := Fin.ext (by
    show 2 * c.val + n.val / 64 / 4 = (c.val * 512 + n.val) / 64 / 4; omega)
  refine congrArg₂ attend (funext fun j => ?_) (funext fun j => ?_)
  · refine congrArg (· * scale) (Finset.sum_congr rfl fun e _ => ?_)
    rw [query_eq P, kvSlab_apply, P.k]
    refine congrArg₂ (· * ·) (congrArg _ (Fin.ext ?_)) (congrArg (fun g => G.k b j g e) hkv)
    show c.val * 512 + (64 * (n.val / 64) + e.val) = (c.val * 512 + n.val) / 64 * 64 + e.val
    omega
  · rw [kvSlab_apply, P.v]
    refine congrArg₂ (G.v b j) hkv (Fin.ext ?_)
    show n.val % 64 = (c.val * 512 + n.val) % 64
    omega

/-- A device's partial product is the part of the formula's sum over the device's columns. -/
theorem partial_eq (P : Parts c A G) (b : Fin 2) (r : Fin 128) (n : Fin 512) :
    out0 c A (ix3 b r n) = ∑ i : Fin 512, G.column b r (part c i) * G.wo (part c i) n := by
  rw [out0_apply]
  exact Finset.sum_congr rfl fun i _ => congrArg₂ (· * ·) (column_eq P b r i) (P.wo i n)

/-- Every device ends with the formula's result. -/
theorem out3_eq (A : Dev nD → Ops Ideal) (P : ∀ c, Parts c (A c) G) (c : Dev nD) (b : Fin 2) (r : Fin 128) (n : Fin 512) :
    out3 A c (ix3 b r n) = G.result b r n := by
  rw [out3_apply]
  unfold Args.result
  rw [Fin.sum_univ_tiles 8 512 rfl]
  exact Finset.sum_congr rfl fun d _ => partial_eq (P d) b r n

end Cert.KernelIdeal.Exch

end
-- ==== Proof.Value.Reference.lean ====
/-
  The reference's result at an index, as the formula of its arguments.
-/
module

public import proofs.«01_k».proof.Proof.Gen.ReferenceIdeal.Run
public import proofs.«01_k».proof.Proof.Value.Model
public import Idealize.ShloMosaic.Lib.Pointwise

@[expose] public section

set_option maxRecDepth 16384

noncomputable section

namespace Cert.ReferenceIdeal.Value

open Cert.ReferenceIdeal Cert.ReferenceIdeal.Gen Cert.Attention
open Idealize.ShloMosaic Idealize.ShloMosaic.TcCoe

variable (m : (ℓ : Loc nD τ sig) → Buf (Elt Ideal) ℓ)

/-- The scores: the projected activations of each head against its keys, times one eighth. -/
def scores (x : FVec Ideal S2x128x512 .f32) (wq : FVec Ideal S512x4096 .f32) (k : FVec Ideal S2x128x16x64 .f32) : FVec Ideal S2x64x128x128 .f32 :=
  mulf (Host.dotGeneral dot_S2x128x64x64_S2x128x64x64_S2x64x128x128_3_3_1_1_02_02 none
      (shapeCast _ (Host.dotGeneral dot_S2x128x512_S512x4096_S2x128x4096_2_0_01_1_n_n none x wq) shapeCasts_S2x128x4096_S2x128x64x64)
      (shapeCast _ (broadcastInDim S2x128x16x4x64 ![0, 1, 2, 4] bcast_S2x128x16x64_S2x128x16x4x64_0_1_2_4 k) shapeCasts_S2x128x16x4x64_S2x128x64x64))
    (broadcastInDim S2x64x128x128 ![] bcast_S_S2x64x128x128 (constant S_ .f32 0x3E000000#32))

/-- The maximum of each row of scores. -/
def rowMax (s : FVec Ideal S2x64x128x128 .f32) : FVec Ideal S2x64x128 .f32 :=
  Host.reduce FloatOps.maximumf s (constant S_ .f32 0xFF800000#32) reducesTo_S2x64x128x128_S2x64x128_d3 h_S_

/-- The greater of minus infinity and each row's `t`. -/
def raised (t : FVec Ideal S2x64x128 .f32) : FVec Ideal S2x64x128x1 .f32 :=
  maximumf (broadcastInDim S2x64x128x1 ![] bcast_S_S2x64x128x1 (constant S_ .f32 0xFF800000#32))
    (broadcastInDim S2x64x128x1 ![0, 1, 2] bcast_S2x64x128_S2x64x128x1_0_1_2 t)

/-- The exponentials of the scores less their row's maximum `p`. -/
def weights (s : FVec Ideal S2x64x128x128 .f32) (p : FVec Ideal S2x64x128x1 .f32) : FVec Ideal S2x64x128x128 .f32 :=
  Host.exp (subf s (broadcastInDim S2x64x128x128 ![0, 1, 2, 3] bcast_S2x64x128x1_S2x64x128x128_0_1_2_3 p))

/-- What the row maximum `p` would scale earlier partial results by. -/
def carry (p : FVec Ideal S2x64x128x1 .f32) : FVec Ideal S2x64x128x1 .f32 :=
  Host.exp (subf (broadcastInDim S2x64x128x1 ![] bcast_S_S2x64x128x1 (constant S_ .f32 0xFF800000#32)) p)

/-- The heads' results from the weights `w` and the scaling `a` of an empty earlier result. -/
def mixed (w : FVec Ideal S2x64x128x128 .f32) (a : FVec Ideal S2x64x128x1 .f32) (v : FVec Ideal S2x128x16x64 .f32) : FVec Ideal S2x128x64x64 .f32 :=
  Host.divf
    (addf (mulf (broadcastInDim S2x128x64x64 ![] bcast_S_S2x128x64x64 (constant S_ .f32 0x00000000#32))
        (broadcastInDim S2x128x64x64 ![0, 1, 2, 3] bcast_S2x128x64x1_S2x128x64x64_0_1_2_3 (transpose S2x128x64x1 [0, 2, 1, 3] a transposes_S2x64x128x1_S2x128x64x1_0_2_1_3)))
      (transpose S2x128x64x64 [0, 3, 1, 2] (Host.dotGeneral dot_S2x128x64x64_S2x64x128x128_S2x64x64x128_1_3_3_2_02_01 none
        (shapeCast _ (broadcastInDim S2x128x16x4x64 ![0, 1, 2, 4] bcast_S2x128x16x64_S2x128x16x4x64_0_1_2_4 v) shapeCasts_S2x128x16x4x64_S2x128x64x64) w)
        transposes_S2x64x64x128_S2x128x64x64_0_3_1_2))
    (broadcastInDim S2x128x64x64 ![0, 1, 2, 3] bcast_S2x128x64x1_S2x128x64x64_0_1_2_3 (transpose S2x128x64x1 [0, 2, 1, 3]
      (addf (mulf (broadcastInDim S2x64x128x1 ![] bcast_S_S2x64x128x1 (constant S_ .f32 0x00000000#32)) a)
        (broadcastInDim S2x64x128x1 ![0, 1, 2] bcast_S2x64x128_S2x64x128x1_0_1_2
          (Host.reduceAdd w (constant S_ .f32 0x00000000#32) reducesTo_S2x64x128x128_S2x64x128_d3 h_S_))) transposes_S2x64x128x1_S2x128x64x1_0_2_1_3))

/-- The product of the heads' results with the output weights. -/
def projected (o : FVec Ideal S2x128x64x64 .f32) (wo : FVec Ideal S4096x512 .f32) : FVec Ideal S2x128x512 .f32 :=
  Host.dotGeneral dot_S2x128x4096_S4096x512_S2x128x512_2_0_01_1_n_n none (shapeCast _ o shapeCasts_S2x128x64x64_S2x128x4096) wo

/-- A score: the sum over a head's 64 columns of the projected activation times the key, times one eighth. -/
theorem scores_apply (x : FVec Ideal S2x128x512 .f32) (wq : FVec Ideal S512x4096 .f32) (k : FVec Ideal S2x128x16x64 .f32) (b : Fin 2) (h : Fin 64) (r j : Fin 128) :
    scores x wq k (ix4 b h r j) = (∑ e : Fin 64, (∑ i : Fin 512, x (ix3 b r i) * wq (ix2 i ⟨h.val * 64 + e.val, by omega⟩)) * k (ix4 b j ⟨h.val / 4, by omega⟩ e)) * scale := by
  pointwise [scores]

/-- A row of scores is their last axis. -/
theorem reduces_rows : S2x64x128x128.Reduces [3] S2x64x128 := by decide

/-- A row's maximum is the greatest of its scores. -/
theorem rowMax_apply (s : FVec Ideal S2x64x128x128 .f32) (b : Fin 2) (h : Fin 64) (r : Fin 128) :
    rowMax s (ix3 b h r) = peak fun j => s (ix4 b h r j) := by
  refine (Host.reduce_eq_fold_single _ s _ _ reduces_rows _ _).trans ?_
  refine (congrArg (fun z => Finset.fold max z _ _) ofBits_bot).trans (Finset.fold_congr fun j _ => congrArg s ?_)
  funext a; fin_cases a <;> rfl

/-- Nothing is less than minus infinity, so the maximum stays. -/
theorem raised_apply (t : FVec Ideal S2x64x128 .f32) (b : Fin 2) (h : Fin 64) (r : Fin 128) :
    raised t (ix4 b h r 0) = t (ix3 b h r) := by
  pointwise [raised, ofBits_bot]
  exact max_bot_left _

/-- A weight is the exponential of the score less its row's maximum. -/
theorem weights_apply (s : FVec Ideal S2x64x128x128 .f32) (p : FVec Ideal S2x64x128x1 .f32) (b : Fin 2) (h : Fin 64) (r j : Fin 128) :
    weights s p (ix4 b h r j) = Ideal.exp (s (ix4 b h r j) - p (ix4 b h r 0)) := by
  pointwise [weights]

/-- A head's result is the weighted sum of its values over the sum of the weights: what would come from an earlier result is zero. -/
theorem mixed_apply (w : FVec Ideal S2x64x128x128 .f32) (a : FVec Ideal S2x64x128x1 .f32) (v : FVec Ideal S2x128x16x64 .f32) (b : Fin 2) (r : Fin 128) (h d : Fin 64) :
    mixed w a v (ix4 b r h d) = Ideal.div (∑ j : Fin 128, v (ix4 b j ⟨h.val / 4, by omega⟩ d) * w (ix4 b h r j)) (∑ j : Fin 128, w (ix4 b h r j)) := by
  pointwise [mixed]
  simp only [zero_mul, zero_add]

/-- The product with the output weights is a sum over the 4096 columns, column `k` in head `k / 64`. -/
theorem projected_apply (o : FVec Ideal S2x128x64x64 .f32) (wo : FVec Ideal S4096x512 .f32) (b : Fin 2) (r : Fin 128) (n : Fin 512) :
    projected o wo (ix3 b r n) = ∑ k : Fin 4096, o (ix4 b r ⟨k.val / 64, by omega⟩ ⟨k.val % 64, by omega⟩) * wo (ix2 k n) := by
  pointwise [projected]

/-- The steps, one after the other. -/
def steps (x : FVec Ideal S2x128x512 .f32) (wq : FVec Ideal S512x4096 .f32) (k v : FVec Ideal S2x128x16x64 .f32) (wo : FVec Ideal S4096x512 .f32) : FVec Ideal S2x128x512 .f32 :=
  projected (mixed (weights (scores x wq k) (raised (rowMax (scores x wq k)))) (carry (raised (rowMax (scores x wq k)))) v) wo

/-- Five arrays by their coordinates. -/
def argsOf (x : S2x128x512.Idx → EReal) (wq : S512x4096.Idx → EReal) (k v : S2x128x16x64.Idx → EReal) (wo : S4096x512.Idx → EReal) : Args where
  x b r i := x (ix3 b r i)
  wq i n := wq (ix2 i n)
  k b j h d := k (ix4 b j h d)
  v b j h d := v (ix4 b j h d)
  wo i n := wo (ix2 i n)

/-- The steps compute the formula, if the activations, the query weights and the keys are reals. -/
theorem steps_apply (x : FVec Ideal S2x128x512 .f32) (wq : FVec Ideal S512x4096 .f32) (k v : FVec Ideal S2x128x16x64 .f32) (wo : FVec Ideal S4096x512 .f32)
    (h : (argsOf x wq k v wo).Real) (b : Fin 2) (r : Fin 128) (n : Fin 512) : steps x wq k v wo (ix3 b r n) = (argsOf x wq k v wo).result b r n := by
  unfold steps Args.result
  rw [projected_apply]
  refine Finset.sum_congr rfl fun i _ => congrArg (· * wo (ix2 i n)) ?_
  rw [mixed_apply]
  simp only [weights_apply, raised_apply, rowMax_apply]
  have hs (g : Fin 64) : (fun j => scores x wq k (ix4 b g r j)) = (argsOf x wq k v wo).score b r g := funext fun j => scores_apply x wq k b g r j
  unfold Args.column
  rw [attend_eq _ _ ((argsOf x wq k v wo).score_real h b r _), ← hs]
  rfl

/-- The reference's arguments, by their coordinates. -/
abbrev args (c : Dev nD) : Args := argsOf (m ((c.tc : Thread nD τ).loc main_arg0)) (m ((c.tc : Thread nD τ).loc main_arg1)) (m ((c.tc : Thread nD τ).loc main_arg2))
  (m ((c.tc : Thread nD τ).loc main_arg3)) (m ((c.tc : Thread nD τ).loc main_arg4))

/-- The reference's result is the steps of its arguments. -/
theorem result_steps (c : Dev nD) :
    res_out0 m c = steps (extf .f32 (m ((c.tc : Thread nD τ).loc main_arg0)) bitsLt_bf16_f32) (extf .f32 (m ((c.tc : Thread nD τ).loc main_arg1)) bitsLt_bf16_f32)
        (extf .f32 (m ((c.tc : Thread nD τ).loc main_arg2)) bitsLt_bf16_f32) (extf .f32 (m ((c.tc : Thread nD τ).loc main_arg3)) bitsLt_bf16_f32)
        (extf .f32 (m ((c.tc : Thread nD τ).loc main_arg4)) bitsLt_bf16_f32) := rfl

/-- The reference's result is the formula of its arguments, if the activations, the query weights and the keys are reals. -/
theorem result_apply (c : Dev nD) (h : (args m c).Real) (b : Fin 2) (r : Fin 128) (n : Fin 512) :
    res_out0 m c (ix3 b r n) = (args m c).result b r n :=
  (congrFun (result_steps m c) _).trans (steps_apply _ _ _ _ _ h b r n)

end Cert.ReferenceIdeal.Value

end
-- ==== Proof.Value.Agree.lean ====
/-
  From arguments that agree, the kernel's result array is the reference's: device by device the operands are the
  reference's arguments or the device's part of them, the scores are finite, and both results are the one formula.
-/
module

public import proofs.«01_k».proof.Proof.Value.Arrays
public import proofs.«01_k».proof.Proof.Value.Equation
public import proofs.«01_k».proof.Proof.Value.Reference
public import Idealize.ShloMosaic.Lib.Layout
public import Idealize.ShloMosaic.Lib.LayoutAt

@[expose] public section

set_option maxRecDepth 16384

noncomputable section

namespace Cert.KernelIdeal.Exch

open Cert.KernelIdeal Cert.KernelIdeal.Gen Cert.Attention
open Idealize.ShloMosaic Idealize.ShloMosaic.TcCoe

variable (m : (ℓ : Loc nD τ sig) → Buf (Elt Ideal) ℓ)

/-- Five whole arrays, of which every device holds three whole and its part of two. -/
structure Agree (x : S2x128x512.Idx → EReal) (wq : (⟨2, ![512, 4096]⟩ : Shape).Idx → EReal) (k v : S2x128x16x64.Idx → EReal)
    (wo : (⟨2, ![4096, 512]⟩ : Shape).Idx → EReal) : Prop where
  x (c : Dev nD) : m ((c : Thread nD τ).loc main_arg0) = x
  wq (c : Dev nD) : m ((c : Thread nD τ).loc main_arg1) = Layout.block ⟨2, ![512, 512]⟩ ⟨2, ![512, 4096]⟩ 1 8 c wq
  k (c : Dev nD) : m ((c : Thread nD τ).loc main_arg2) = k
  v (c : Dev nD) : m ((c : Thread nD τ).loc main_arg3) = v
  wo (c : Dev nD) : m ((c : Thread nD τ).loc main_arg4) = Layout.block ⟨2, ![512, 512]⟩ ⟨2, ![4096, 512]⟩ 0 8 c wo

variable {m} {x : S2x128x512.Idx → EReal} {wq : (⟨2, ![512, 4096]⟩ : Shape).Idx → EReal} {k v : S2x128x16x64.Idx → EReal}
  {wo : (⟨2, ![4096, 512]⟩ : Shape).Idx → EReal}

/-- Element `(i, n)` of a device's block of columns. -/
theorem block_cols (c : Dev nD) (i n : Fin 512) : (Layout.block ⟨2, ![512, 512]⟩ ⟨2, ![512, 4096]⟩ 1 8 c wq) (ix2 i n) = wq (ix2 i (part c n)) := by
  rw [Layout.block_apply]
  refine congrArg wq (funext fun a => Fin.ext ?_)
  fin_cases a <;> rfl

/-- Element `(i, n)` of a device's block of rows. -/
theorem block_rows (c : Dev nD) (i n : Fin 512) : (Layout.block ⟨2, ![512, 512]⟩ ⟨2, ![4096, 512]⟩ 0 8 c wo) (ix2 i n) = wo (ix2 (part c i) n) := by
  rw [Layout.block_apply]
  refine congrArg wo (funext fun a => Fin.ext ?_)
  fin_cases a <;> rfl

/-- A device's operands are its parts of the whole arrays. -/
theorem Agree.parts (h : Agree m x wq k v wo) (c : Dev nD) : Parts c (opsAt m c) (Cert.ReferenceIdeal.Value.argsOf x wq k v wo) := by
  rw [opsAt_eq]
  refine ⟨fun b r i => congrFun (h.x c) _, fun i n => (congrFun (h.wq c) _).trans (block_cols c i n), fun i n => (congrFun (h.wo c) _).trans (block_rows c i n),
    fun b g j d => ?_, fun b g j d => ?_⟩
  · rw [h.k c]; pointwise; rfl
  · rw [h.v c]; pointwise; rfl

/-- If the activations, each device's query weights and the keys are reals, so are the whole arrays. -/
theorem Agree.real (h : Agree m x wq k v wo) (hx : ∀ c : Dev nD, ∀ i, ∃ y : ℝ, m ((c : Thread nD τ).loc main_arg0) i = (y : EReal))
    (hq : ∀ c : Dev nD, ∀ i, ∃ y : ℝ, m ((c : Thread nD τ).loc main_arg1) i = (y : EReal))
    (hk : ∀ c : Dev nD, ∀ i, ∃ y : ℝ, m ((c : Thread nD τ).loc main_arg2) i = (y : EReal)) : (Cert.ReferenceIdeal.Value.argsOf x wq k v wo).Real := by
  refine ⟨fun b r i => ?_, fun i n => ?_, fun b j g d => ?_⟩
  · obtain ⟨y, hy⟩ := hx 0 (ix3 b r i)
    exact ⟨y, (congrFun (h.x 0) _).symm.trans hy⟩
  · obtain ⟨y, hy⟩ := hq (⟨n.val / 512, by have := n.isLt; show _ < 8; omega⟩ : Dev nD) (ix2 i ⟨n.val % 512, Nat.mod_lt _ (by decide)⟩)
    refine ⟨y, Eq.trans ?_ ((congrFun (h.wq _) _).symm.trans hy)⟩
    refine Eq.trans ?_ (block_cols _ _ _).symm
    refine congrArg (fun n => wq (ix2 i n)) (Fin.ext ?_)
    show n.val = n.val / 512 * 512 + n.val % 512
    omega
  · obtain ⟨y, hy⟩ := hk 0 (ix4 b j g d)
    exact ⟨y, (congrFun (h.k 0) _).symm.trans hy⟩

/-- The kernel's result array at an index is the formula of the whole arrays. -/
theorem Agree.result (h : Agree m x wq k v wo) (c : Dev nD) (b : Fin 2) (r : Fin 128) (n : Fin 512) :
    (dat m c).arrAt 5 cfg0.N (ix3 b r n) = (Cert.ReferenceIdeal.Value.argsOf x wq k v wo).result b r n :=
  (congrFun (result_array m c) _).trans (out3_eq _ h.parts c b r n)

end Cert.KernelIdeal.Exch

end
-- ==== Proof.lean ====
/-
  The proof of `Cert.Claim`: the kernel, its idealization and the idealized reference each end with their arguments
  unchanged and their counters at zero, the idealization is the kernel's own text, and of finite activations, query
  weights and keys the idealization's result is the idealized reference's.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Kernel.Run
public import proofs.«01_k».proof.Proof.KernelIdeal.Run
public import proofs.«01_k».proof.Proof.Value.Finite
public import proofs.«01_k».proof.Proof.Value.Agree
public import Idealize.ShloMosaic.Adequacy
public import Idealize.ShloMosaic.Init

@[expose] public section

noncomputable section

namespace Cert.Proof

open Idealize.ShloMosaic Idealize.SL.Sem

/-- The kernel, on its own floats. -/
theorem frame_kernel : Cert.quiescent_Kernel := fun m g _ =>
  (θ_run Cert.Kernel.defs _ _).mono (fun _ h => ⟨fun c => (h.1 c).2, h.2⟩) (Cert.Kernel.Exch.run_main (F := Bits) m g)

/-- The kernel, on ideal floats. -/
theorem frame_ideal : Cert.quiescent_KernelIdeal := fun m g _ =>
  (θ_run Cert.KernelIdeal.defs _ _).mono (fun _ h => ⟨fun c => (h.1 c).2, h.2⟩) (Cert.KernelIdeal.Exch.run_main (F := Ideal) m g)

/-- The reference, which declares no semaphore. -/
theorem frame_reference : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

/-- The kernel's result, on every device, is the reference's. -/
theorem value_ideal [Cert.Pre_finite_scores_KernelIdeal.Facts] : Cert.algebraic_KernelIdeal_ReferenceIdeal_pre_finite_scores_KernelIdeal := by
  intro m g m' g' pre agree
  have h : Cert.KernelIdeal.Exch.Agree m _ _ _ _ _ :=
    ⟨fun c => (agree c).1, fun c => (agree c).2.1, fun c => (agree c).2.2.1, fun c => (agree c).2.2.2.1, fun c => (agree c).2.2.2.2⟩
  have real := h.real (fun c => Cert.Pre_finite_scores_KernelIdeal.x_real _ _ _ _ _ (pre c).1)
    (fun c => Cert.Pre_finite_scores_KernelIdeal.wq_real _ _ _ _ _ (pre c).2.1) (fun c => Cert.Pre_finite_scores_KernelIdeal.k_real _ _ _ _ _ (pre c).2.2)
  refine ⟨Cert.ReferenceIdeal.Value.res_out0 m' 0, ?_, ?_⟩
  · refine (θ_run Cert.KernelIdeal.defs _ _).mono (fun _ r c => ⟨(r.1 c).1.trans (funext fun j => ?_), (r.1 c).2⟩) (Cert.KernelIdeal.Exch.run_main (F := Ideal) m g)
    obtain ⟨b, i, n, rfl⟩ : ∃ (b : Fin 2) (i : Fin 128) (n : Fin 512), j = ix3 b i n := ⟨j 0, j 1, j 2, by idx_ext⟩
    exact (h.result c b i n).trans (Cert.ReferenceIdeal.Value.result_apply m' 0 real b i n).symm
  · exact (θ_run Cert.ReferenceIdeal.defs _ _).mono (fun _ r => r 0) (Cert.ReferenceIdeal.Value.run (F := Ideal) m' g')

/-- Every claim. -/
theorem claim : Cert.Claim :=
  ⟨Cert.Kernel.Gen.facts, Cert.KernelIdeal.Gen.facts, Cert.ReferenceIdeal.Gen.facts,
    Cert.Pre_finite_scores_KernelIdeal.facts, Cert.Pre_finite_scores_ReferenceIdeal.facts,
    frame_kernel, frame_ideal, fun m g _ => frame_ideal m g trivial, frame_reference, fun m g _ => frame_reference m g trivial, trivial,
    haveI := Cert.Pre_finite_scores_KernelIdeal.facts; value_ideal⟩

end Cert.Proof

end
